-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_area" .f32 0x3A70B84D#32 ((1 / 1089 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S16x2048 : Shape := ⟨2, ![16, 2048]⟩
abbrev S16x3x512x512 : Shape := ⟨4, ![16, 3, 512, 512]⟩
abbrev S128x9x1x1 : Shape := ⟨4, ![128, 9, 1, 1]⟩
abbrev S128 : Shape := ⟨1, ![128]⟩
abbrev S1024x128x3x3 : Shape := ⟨4, ![1024, 128, 3, 3]⟩
abbrev S1024 : Shape := ⟨1, ![1024]⟩
abbrev S256x1024 : Shape := ⟨2, ![256, 1024]⟩
abbrev S256 : Shape := ⟨1, ![256]⟩
abbrev S16x1x512x512 : Shape := ⟨4, ![16, 1, 512, 512]⟩
abbrev S16x512x512 : Shape := ⟨3, ![16, 512, 512]⟩
abbrev S_ : Shape := ⟨0, ![]⟩
abbrev S16 : Shape := ⟨1, ![16]⟩
abbrev S128x1x1x1 : Shape := ⟨4, ![128, 1, 1, 1]⟩
abbrev S128x1x1 : Shape := ⟨3, ![128, 1, 1]⟩

class Facts : Prop where
  slices_S16x3x512x512_S16x1x512x512_0_1_0_0 : S16x3x512x512.Slices ![0, 1, 0, 0] S16x1x512x512
  shapeCasts_S16x1x512x512_S16x512x512 : S16x1x512x512.ShapeCasts S16x512x512
  slices_S16x3x512x512_S16x1x512x512_0_2_0_0 : S16x3x512x512.Slices ![0, 2, 0, 0] S16x1x512x512
  bcast_S_S16x512x512 : S_.BroadcastsInDim S16x512x512 (![] : Fin 0 → Fin S16x512x512.rank)
  bcast_S_S128 : S_.BroadcastsInDim S128 (![] : Fin 0 → Fin S128.rank)
  reducesTo_S16x512x512_S16_d1_2 : S16x512x512.ReducesTo [1, 2] S16
  h_S_ : 0 < S_.numel
  reducesTo_S16_S_d0 : S16.ReducesTo [0] S_
  slices_S128x9x1x1_S128x1x1x1_0_0_0_0 : S128x9x1x1.Slices ![0, 0, 0, 0] S128x1x1x1
  shapeCasts_S128x1x1x1_S128x1x1 : S128x1x1x1.ShapeCasts S128x1x1
  bcast_S_S128x1x1 : S_.BroadcastsInDim S128x1x1 (![] : Fin 0 → Fin S128x1x1.rank)
  reducesTo_S128x1x1_S_d0_1_2 : S128x1x1.ReducesTo [0, 1, 2] S_
  reducesTo_S128_S_d0 : S128.ReducesTo [0] S_

variable [Facts]

def fn_part2 {F : FTy → Type} [FloatOps F] (main_arg2 : FVec F S128x9x1x1 .f32) (main_v32 : FVec F S128 .f32) (main_v34 : IVec S_ 1) : IVec S_ 1 :=
  let main_v35 : FVec F S128x1x1x1 .f32 := (extractStridedSlice S128x1x1x1 ![0, 0, 0, 0] · slices_S128x9x1x1_S128x1x1x1_0_0_0_0) main_arg2
  let main_v36 : FVec F S128x1x1 .f32 := shapeCast S128x1x1 main_v35 shapeCasts_S128x1x1x1_S128x1x1
  let main_v37 : FVec F S128x1x1 .f32 := Host.absf main_v36
  let main_cst_11 : FVec F S_ .f32 := constant S_ .f32 0x7F800000#32
  let main_v38 : FVec F S128x1x1 .f32 := broadcastInDim S128x1x1 ![] bcast_S_S128x1x1 main_cst_11
  let main_v39 : IVec S128x1x1 1 := cmpf .olt main_v37 main_v38
  let main_c_12 : IVec S_ 1 := constantI S_ 1 1#1
  let main_v40 : IVec S_ 1 := (fun x v => Host.reduce IntOp.andi x v reducesTo_S128x1x1_S_d0_1_2 h_S_) main_v39 main_c_12
  let main_v41 : IVec S_ 1 := andi main_v34 main_v40
  let main_v42 : FVec F S128 .f32 := Host.absf main_v32
  let main_cst_13 : FVec F S_ .f32 := constant S_ .f32 0x7F800000#32
  let main_v43 : FVec F S128 .f32 := broadcastInDim S128 ![] bcast_S_S128 main_cst_13
  let main_v44 : IVec S128 1 := cmpf .olt main_v42 main_v43
  let main_c_14 : IVec S_ 1 := constantI S_ 1 1#1
  let main_v45 : IVec S_ 1 := (fun x v => Host.reduce IntOp.andi x v reducesTo_S128_S_d0 h_S_) main_v44 main_c_14
  let main_v46 : IVec S_ 1 := andi main_v41 main_v45
  main_v46

def fn_part1 {F : FTy → Type} [FloatOps F] (main_arg2 : FVec F S128x9x1x1 .f32) (main_arg3 : FVec F S128 .f32) (main_arg6 : FVec F S128 .f32) (main_v7 : FVec F S16x512x512 .f32) (main_v11 : FVec F S16x512x512 .f32) (main_v16 : IVec S16x512x512 1) (main_cst_5 : FVec F S_ .f32) : IVec S_ 1 :=
  let main_v17 : FVec F S16x512x512 .f32 := broadcastInDim S16x512x512 ![] bcast_S_S16x512x512 main_cst_5
  let main_v18 : IVec S16x512x512 1 := cmpf .oge main_v7 main_v17
  let main_v19 : IVec S16x512x512 1 := andi main_v16 main_v18
  let main_cst_6 : FVec F S_ .f32 := constant S_ .f32 0x3F800000#32
  let main_v20 : FVec F S16x512x512 .f32 := broadcastInDim S16x512x512 ![] bcast_S_S16x512x512 main_cst_6
  let main_v21 : IVec S16x512x512 1 := cmpf .ole main_v7 main_v20
  let main_v22 : IVec S16x512x512 1 := andi main_v19 main_v21
  let main_cst_7 : FVec F S_ .f32 := constant S_ .f32 0x00000000#32
  let main_v23 : FVec F S16x512x512 .f32 := broadcastInDim S16x512x512 ![] bcast_S_S16x512x512 main_cst_7
  let main_v24 : IVec S16x512x512 1 := cmpf .oge main_v11 main_v23
  let main_v25 : IVec S16x512x512 1 := andi main_v22 main_v24
  let main_cst_8 : FVec F S_ .f32 := constant S_ .f32 0x3F800000#32
  let main_v26 : FVec F S16x512x512 .f32 := broadcastInDim S16x512x512 ![] bcast_S_S16x512x512 main_cst_8
  let main_v27 : IVec S16x512x512 1 := cmpf .ole main_v11 main_v26
  let main_v28 : IVec S16x512x512 1 := andi main_v25 main_v27
  let main_cst_9 : FVec F S_ .f32 := constant S_ .f32 0x3727C5AC#32
  let main_v29 : FVec F S128 .f32 := broadcastInDim S128 ![] bcast_S_S128 main_cst_9
  let main_v30 : FVec F S128 .f32 := addf main_arg6 main_v29
  let main_v31 : FVec F S128 .f32 := Host.rsqrt main_v30
  let main_v32 : FVec F S128 .f32 := mulf main_arg3 main_v31
  let main_c : IVec S_ 1 := constantI S_ 1 0#1
  let main_v33 : IVec S16 1 := (fun x v => Host.reduce IntOp.ori x v reducesTo_S16x512x512_S16_d1_2 h_S_) main_v28 main_c
  let main_c_10 : IVec S_ 1 := constantI S_ 1 1#1
  let main_v34 : IVec S_ 1 := (fun x v => Host.reduce IntOp.andi x v reducesTo_S16_S_d0 h_S_) main_v33 main_c_10
  fn_part2 (F := F) main_arg2 main_v32 main_v34

def fn {F : FTy → Type} [FloatOps F] (main_arg0 : FVec F S16x2048 .f32) (main_arg1 : FVec F S16x3x512x512 .f32) (main_arg2 : FVec F S128x9x1x1 .f32) (main_arg3 : FVec F S128 .f32) (main_arg4 : FVec F S128 .f32) (main_arg5 : FVec F S128 .f32) (main_arg6 : FVec F S128 .f32) (main_arg7 : FVec F S1024x128x3x3 .f32) (main_arg8 : FVec F S1024 .f32) (main_arg9 : FVec F S1024 .f32) (main_arg10 : FVec F S1024 .f32) (main_arg11 : FVec F S1024 .f32) (main_arg12 : FVec F S256x1024 .f32) (main_arg13 : FVec F S256 .f32) : IVec S_ 1 :=
  let main_v0 : FVec F S16x1x512x512 .f32 := (extractStridedSlice S16x1x512x512 ![0, 1, 0, 0] · slices_S16x3x512x512_S16x1x512x512_0_1_0_0) main_arg1
  let main_v1 : FVec F S16x512x512 .f32 := shapeCast S16x512x512 main_v0 shapeCasts_S16x1x512x512_S16x512x512
  let main_v2 : FVec F S16x1x512x512 .f32 := (extractStridedSlice S16x1x512x512 ![0, 2, 0, 0] · slices_S16x3x512x512_S16x1x512x512_0_2_0_0) main_arg1
  let main_v3 : FVec F S16x512x512 .f32 := shapeCast S16x512x512 main_v2 shapeCasts_S16x1x512x512_S16x512x512
  let main_cst : FVec F S_ .f32 := constant S_ .f32 0x3F800000#32
  let main_v4 : FVec F S16x512x512 .f32 := broadcastInDim S16x512x512 ![] bcast_S_S16x512x512 main_cst
  let main_v5 : FVec F S16x512x512 .f32 := addf main_v1 main_v4
  let main_cst_0 : FVec F S_ .f32 := constant S_ .f32 0x3F000000#32
  let main_v6 : FVec F S16x512x512 .f32 := broadcastInDim S16x512x512 ![] bcast_S_S16x512x512 main_cst_0
  let main_v7 : FVec F S16x512x512 .f32 := mulf main_v5 main_v6
  let main_cst_1 : FVec F S_ .f32 := constant S_ .f32 0x3F800000#32
  let main_v8 : FVec F S16x512x512 .f32 := broadcastInDim S16x512x512 ![] bcast_S_S16x512x512 main_cst_1
  let main_v9 : FVec F S16x512x512 .f32 := addf main_v3 main_v8
  let main_cst_2 : FVec F S_ .f32 := constant S_ .f32 0x3F000000#32
  let main_v10 : FVec F S16x512x512 .f32 := broadcastInDim S16x512x512 ![] bcast_S_S16x512x512 main_cst_2
  let main_v11 : FVec F S16x512x512 .f32 := mulf main_v9 main_v10
  let main_cst_3 : FVec F S_ .f32 := constant S_ .f32 0x00000000#32
  let main_v12 : FVec F S16x512x512 .f32 := broadcastInDim S16x512x512 ![] bcast_S_S16x512x512 main_cst_3
  let main_v13 : IVec S16x512x512 1 := cmpf .une main_v1 main_v12
  let main_cst_4 : FVec F S_ .f32 := constant S_ .f32 0x00000000#32
  let main_v14 : FVec F S16x512x512 .f32 := broadcastInDim S16x512x512 ![] bcast_S_S16x512x512 main_cst_4
  let main_v15 : IVec S16x512x512 1 := cmpf .une main_v3 main_v14
  let main_v16 : IVec S16x512x512 1 := andi main_v13 main_v15
  let main_cst_5 : FVec F S_ .f32 := constant S_ .f32 0x00000000#32
  fn_part1 (F := F) main_arg2 main_arg3 main_arg6 main_v7 main_v11 main_v16 main_cst_5
-- ==== Kernel.lean ====
abbrev S16x2048 : Shape := ⟨2, ![16, 2048]⟩
abbrev S16x3x512x512 : Shape := ⟨4, ![16, 3, 512, 512]⟩
abbrev S128x9x1x1 : Shape := ⟨4, ![128, 9, 1, 1]⟩
abbrev S128 : Shape := ⟨1, ![128]⟩
abbrev S1024x128x3x3 : Shape := ⟨4, ![1024, 128, 3, 3]⟩
abbrev S1024 : Shape := ⟨1, ![1024]⟩
abbrev S256x1024 : Shape := ⟨2, ![256, 1024]⟩
abbrev S256 : Shape := ⟨1, ![256]⟩
abbrev S128x9 : Shape := ⟨2, ![128, 9]⟩
abbrev S9x128 : Shape := ⟨2, ![9, 128]⟩
abbrev S3x3x128x1024 : Shape := ⟨4, ![3, 3, 128, 1024]⟩
abbrev S1152x1024 : Shape := ⟨2, ![1152, 1024]⟩
abbrev S1024x256 : Shape := ⟨2, ![1024, 256]⟩
abbrev S1x128 : Shape := ⟨2, ![1, 128]⟩
abbrev S1x1024 : Shape := ⟨2, ![1, 1024]⟩
abbrev S1x256 : Shape := ⟨2, ![1, 256]⟩
abbrev S16x1x256 : Shape := ⟨3, ![16, 1, 256]⟩
abbrev S16x256 : Shape := ⟨2, ![16, 256]⟩
abbrev S16x2304 : Shape := ⟨2, ![16, 2304]⟩
abbrev S1x3x512x512 : Shape := ⟨4, ![1, 3, 512, 512]⟩
abbrev S1x1x256 : Shape := ⟨3, ![1, 1, 256]⟩
abbrev S64x64 : Shape := ⟨2, ![64, 64]⟩
abbrev S1x8 : Shape := ⟨2, ![1, 8]⟩
abbrev S1x1x64x512 : Shape := ⟨4, ![1, 1, 64, 512]⟩
abbrev S64x512 : Shape := ⟨2, ![64, 512]⟩
abbrev S64x512x64 : Shape := ⟨3, ![64, 512, 64]⟩
abbrev S64x512x8 : Shape := ⟨3, ![64, 512, 8]⟩
abbrev S64x512x1 : Shape := ⟨3, ![64, 512, 1]⟩
abbrev S32768x64 : Shape := ⟨2, ![32768, 64]⟩
abbrev S32768x8 : Shape := ⟨2, ![32768, 8]⟩
abbrev S8 : Shape := ⟨1, ![8]⟩
abbrev S1x64x64 : Shape := ⟨3, ![1, 64, 64]⟩
abbrev S1 : Shape := ⟨1, ![1]⟩
abbrev S1x1x1 : Shape := ⟨3, ![1, 1, 1]⟩
abbrev S1x1x8 : Shape := ⟨3, ![1, 1, 8]⟩
abbrev S8x128 : Shape := ⟨2, ![8, 128]⟩
abbrev S64x1 : Shape := ⟨2, ![64, 1]⟩
abbrev S64x66 : Shape := ⟨2, ![64, 66]⟩
abbrev S1x66 : Shape := ⟨2, ![1, 66]⟩
abbrev S66x66 : Shape := ⟨2, ![66, 66]⟩
abbrev S68x66 : Shape := ⟨2, ![68, 66]⟩
abbrev S66x1 : Shape := ⟨2, ![66, 1]⟩
abbrev S66x68 : Shape := ⟨2, ![66, 68]⟩
abbrev S33x66 : Shape := ⟨2, ![33, 66]⟩
abbrev S66x33 : Shape := ⟨2, ![66, 33]⟩
abbrev S33x33 : Shape := ⟨2, ![33, 33]⟩
abbrev S2x128 : Shape := ⟨2, ![2, 128]⟩
abbrev S33x1 : Shape := ⟨2, ![33, 1]⟩
abbrev S33x2 : Shape := ⟨2, ![33, 2]⟩
abbrev S33x128 : Shape := ⟨2, ![33, 128]⟩
abbrev S1x33x128 : Shape := ⟨3, ![1, 33, 128]⟩
abbrev S33x33x128 : Shape := ⟨3, ![33, 33, 128]⟩
abbrev S1x1x128 : Shape := ⟨3, ![1, 1, 128]⟩
abbrev S33x1x128 : Shape := ⟨3, ![33, 1, 128]⟩
abbrev S33x35x128 : Shape := ⟨3, ![33, 35, 128]⟩
abbrev S1x35x128 : Shape := ⟨3, ![1, 35, 128]⟩
abbrev S35x35x128 : Shape := ⟨3, ![35, 35, 128]⟩
abbrev S1089x128 : Shape := ⟨2, ![1089, 128]⟩
abbrev S1089x1152 : Shape := ⟨2, ![1089, 1152]⟩
abbrev S1089x1024 : Shape := ⟨2, ![1089, 1024]⟩

abbrev nBuf : Space → Nat
  | .hbm => 32
  | .vmem => 16
  | .smem => 0
  | _ => 0

abbrev bufTy : (tb : Table) → Fin (tcTables nBuf tb) → BufTy
  | .hbm, ⟨0, _⟩ => ⟨S16x2048, .f32⟩
  | .hbm, ⟨1, _⟩ => ⟨S16x3x512x512, .f32⟩
  | .hbm, ⟨2, _⟩ => ⟨S128x9x1x1, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1024x128x3x3, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S256x1024, .f32⟩
  | .hbm, ⟨13, _⟩ => ⟨S256, .f32⟩
  | .hbm, ⟨14, _⟩ => ⟨S128x9, .f32⟩
  | .hbm, ⟨15, _⟩ => ⟨S9x128, .f32⟩
  | .hbm, ⟨16, _⟩ => ⟨S3x3x128x1024, .f32⟩
  | .hbm, ⟨17, _⟩ => ⟨S1152x1024, .f32⟩
  | .hbm, ⟨18, _⟩ => ⟨S1152x1024, .bf16⟩
  | .hbm, ⟨19, _⟩ => ⟨S1024x256, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x256, .f32⟩
  | .hbm, ⟨29, _⟩ => ⟨S16x1x256, .f32⟩
  | .hbm, ⟨30, _⟩ => ⟨S16x256, .f32⟩
  | .hbm, ⟨31, _⟩ => ⟨S16x2304, .f32⟩
  | .local _ .vmem, ⟨0, _⟩ => ⟨S1x3x512x512, .f32⟩
  | .local _ .vmem, ⟨1, _⟩ => ⟨S1x3x512x512, .f32⟩
  | .local _ .vmem, ⟨2, _⟩ => ⟨S9x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1152x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x256, .f32⟩
  | .local _ .vmem, ⟨13, _⟩ => ⟨S1x256, .f32⟩
  | .local _ .vmem, ⟨14, _⟩ => ⟨S1x1x256, .f32⟩
  | .local _ .vmem, ⟨15, _⟩ => ⟨S1x1x256, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off1 (k0_t1 : Fin k0_t1_loop.trips) : Fin 4 → Nat :=
  let c0_94 : Index := 0#32
  let c0_95 : Index := 0#32
  let c0_i32 : BitVec 32 := 0#32
  let c1_i32 : BitVec 32 := 1#32
  let arg15 : BitVec 32 := Scf.iv c0_i32 c1_i32 k0_t1
  let c64_i32 : BitVec 32 := 64#32
  let v409 : BitVec 32 := Scalar.muli arg15 c64_i32
  let v410 : Index := Scalar.indexCast v409
  let c0_96 : Index := 0#32
  ![0, 0, v410.toNat, 0]
def k0_off2 (k0_t1 : Fin k0_t1_loop.trips) : Fin 4 → Nat :=
  let c0_98 : Index := 0#32
  let c1_99 : Index := 1#32
  let c0_i32 : BitVec 32 := 0#32
  let c1_i32 : BitVec 32 := 1#32
  let arg15 : BitVec 32 := Scf.iv c0_i32 c1_i32 k0_t1
  let c64_i32_97 : BitVec 32 := 64#32
  let v413 : BitVec 32 := Scalar.muli arg15 c64_i32_97
  let v414 : Index := Scalar.indexCast v413
  let c0_100 : Index := 0#32
  ![0, 1, v414.toNat, 0]
def k0_off3 (k0_t1 : Fin k0_t1_loop.trips) : Fin 4 → Nat :=
  let c0_102 : Index := 0#32
  let c2 : Index := 2#32
  let c0_i32 : BitVec 32 := 0#32
  let c1_i32 : BitVec 32 := 1#32
  let arg15 : BitVec 32 := Scf.iv c0_i32 c1_i32 k0_t1
  let c64_i32_101 : BitVec 32 := 64#32
  let v417 : BitVec 32 := Scalar.muli arg15 c64_i32_101
  let v418 : Index := Scalar.indexCast v417
  let c0_103 : Index := 0#32
  ![0, 2, v418.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv_area" => some ((1 / 1089 : ℝ) : EReal)
  | _ => none
-- ==== ReferenceIdeal.lean ====
abbrev S16x2048 : Shape := ⟨2, ![16, 2048]⟩
abbrev S16x3x512x512 : Shape := ⟨4, ![16, 3, 512, 512]⟩
abbrev S128x9x1x1 : Shape := ⟨4, ![128, 9, 1, 1]⟩
abbrev S128 : Shape := ⟨1, ![128]⟩
abbrev S1024x128x3x3 : Shape := ⟨4, ![1024, 128, 3, 3]⟩
abbrev S1024 : Shape := ⟨1, ![1024]⟩
abbrev S256x1024 : Shape := ⟨2, ![256, 1024]⟩
abbrev S256 : Shape := ⟨1, ![256]⟩
abbrev S16x1x512x512 : Shape := ⟨4, ![16, 1, 512, 512]⟩
abbrev S16x512x512 : Shape := ⟨3, ![16, 512, 512]⟩
abbrev S16x262144 : Shape := ⟨2, ![16, 262144]⟩
abbrev S_ : Shape := ⟨0, ![]⟩
abbrev S16 : Shape := ⟨1, ![16]⟩
abbrev S16x1 : Shape := ⟨2, ![16, 1]⟩
abbrev S4194304 : Shape := ⟨1, ![4194304]⟩
abbrev S65536 : Shape := ⟨1, ![65536]⟩
abbrev S4194304x1 : Shape := ⟨2, ![4194304, 1]⟩
abbrev S16x64x64 : Shape := ⟨3, ![16, 64, 64]⟩
abbrev S16x1x1 : Shape := ⟨3, ![16, 1, 1]⟩
abbrev S16x1x64x64 : Shape := ⟨4, ![16, 1, 64, 64]⟩
abbrev S16x8 : Shape := ⟨2, ![16, 8]⟩
abbrev S16x8x1x1 : Shape := ⟨4, ![16, 8, 1, 1]⟩
abbrev S16x8x64x64 : Shape := ⟨4, ![16, 8, 64, 64]⟩
abbrev S16x9x64x64 : Shape := ⟨4, ![16, 9, 64, 64]⟩
abbrev S16x9x66x66 : Shape := ⟨4, ![16, 9, 66, 66]⟩
abbrev S128x9 : Shape := ⟨2, ![128, 9]⟩
abbrev S16x66x66x128 : Shape := ⟨4, ![16, 66, 66, 128]⟩
abbrev S16x128x66x66 : Shape := ⟨4, ![16, 128, 66, 66]⟩
abbrev S1x128x1x1 : Shape := ⟨4, ![1, 128, 1, 1]⟩
abbrev S16x128x68x68 : Shape := ⟨4, ![16, 128, 68, 68]⟩
abbrev S16x128x33x33 : Shape := ⟨4, ![16, 128, 33, 33]⟩
abbrev S16x128x35x35 : Shape := ⟨4, ![16, 128, 35, 35]⟩
abbrev S1024x128x1x1 : Shape := ⟨4, ![1024, 128, 1, 1]⟩
abbrev S1024x128 : Shape := ⟨2, ![1024, 128]⟩
abbrev S16x33x33x1024 : Shape := ⟨4, ![16, 33, 33, 1024]⟩
abbrev S16x1024x33x33 : Shape := ⟨4, ![16, 1024, 33, 33]⟩
abbrev S1x1024x1x1 : Shape := ⟨4, ![1, 1024, 1, 1]⟩
abbrev S16x1024 : Shape := ⟨2, ![16, 1024]⟩
abbrev S1024x256 : Shape := ⟨2, ![1024, 256]⟩
abbrev S16x256 : Shape := ⟨2, ![16, 256]⟩
abbrev S1x256 : Shape := ⟨2, ![1, 256]⟩
abbrev S16x2304 : Shape := ⟨2, ![16, 2304]⟩

abbrev nBuf : Space → Nat
  | .hbm => 294
  | .vmem => 0
  | .smem => 0
  | _ => 0

abbrev hbmTy0_0 (i : Nat) : BufTy := match i % 128 with
  | 0 => ⟨S16x2048, .f32⟩
  | 1 => ⟨S16x3x512x512, .f32⟩
  | 2 => ⟨S128x9x1x1, .f32⟩
  | 3 => ⟨S128, .f32⟩
  | 4 => ⟨S128, .f32⟩
  | 5 => ⟨S128, .f32⟩
  | 6 => ⟨S128, .f32⟩
  | 7 => ⟨S1024x128x3x3, .f32⟩
  | 8 => ⟨S1024, .f32⟩
  | 9 => ⟨S1024, .f32⟩
  | 10 => ⟨S1024, .f32⟩
  | 11 => ⟨S1024, .f32⟩
  | 12 => ⟨S256x1024, .f32⟩
  | 13 => ⟨S256, .f32⟩
  | 14 => ⟨S16x1x512x512, .f32⟩
  | 15 => ⟨S16x512x512, .f32⟩
  | 16 => ⟨S16x262144, .f32⟩
  | 17 => ⟨S16x1x512x512, .f32⟩
  | 18 => ⟨S16x512x512, .f32⟩
  | 19 => ⟨S16x262144, .f32⟩
  | 20 => ⟨S_, .f32⟩
  | 21 => ⟨S16x262144, .f32⟩
  | 22 => ⟨S16x262144, .f32⟩
  | 23 => ⟨S_, .f32⟩
  | 24 => ⟨S16x262144, .f32⟩
  | 25 => ⟨S16x262144, .f32⟩
  | 26 => ⟨S_, .f32⟩
  | 27 => ⟨S16x262144, .f32⟩
  | 28 => ⟨S16x262144, .f32⟩
  | 29 => ⟨S_, .f32⟩
  | 30 => ⟨S16x262144, .f32⟩
  | 31 => ⟨S16x262144, .f32⟩
  | 32 => ⟨S_, .f32⟩
  | 33 => ⟨S16x262144, .f32⟩
  | 34 => ⟨S16x262144, .i1⟩
  | 35 => ⟨S_, .f32⟩
  | 36 => ⟨S16x262144, .f32⟩
  | 37 => ⟨S16x262144, .i1⟩
  | 38 => ⟨S16x262144, .i1⟩
  | 39 => ⟨S_, .f32⟩
  | 40 => ⟨S16x262144, .f32⟩
  | 41 => ⟨S16x262144, .i1⟩
  | 42 => ⟨S16x262144, .i1⟩
  | 43 => ⟨S_, .f32⟩
  | 44 => ⟨S16x262144, .f32⟩
  | 45 => ⟨S16x262144, .i1⟩
  | 46 => ⟨S16x262144, .i1⟩
  | 47 => ⟨S_, .f32⟩
  | 48 => ⟨S16x262144, .f32⟩
  | 49 => ⟨S16x262144, .i1⟩
  | 50 => ⟨S16x262144, .i1⟩
  | 51 => ⟨S_, .f32⟩
  | 52 => ⟨S16x262144, .f32⟩
  | 53 => ⟨S16x262144, .i1⟩
  | 54 => ⟨S16x262144, .i1⟩
  | 55 => ⟨S16x262144, .f32⟩
  | 56 => ⟨S_, .f32⟩
  | 57 => ⟨S16x262144, .f32⟩
  | 58 => ⟨S16x262144, .f32⟩
  | 59 => ⟨S16x262144, .f32⟩
  | 60 => ⟨S16x262144, .i32⟩
  | 61 => ⟨S_, .i32⟩
  | 62 => ⟨S_, .i32⟩
  | 63 => ⟨S_, .i32⟩
  | 64 => ⟨S16x262144, .i32⟩
  | 65 => ⟨S16x262144, .i32⟩
  | 66 => ⟨S_, .i32⟩
  | 67 => ⟨S16x262144, .i32⟩
  | 68 => ⟨S16x262144, .i32⟩
  | 69 => ⟨S_, .f32⟩
  | 70 => ⟨S16x262144, .f32⟩
  | 71 => ⟨S16x262144, .f32⟩
  | 72 => ⟨S16x262144, .f32⟩
  | 73 => ⟨S16x262144, .i32⟩
  | 74 => ⟨S_, .i32⟩
  | 75 => ⟨S_, .i32⟩
  | 76 => ⟨S_, .i32⟩
  | 77 => ⟨S16x262144, .i32⟩
  | 78 => ⟨S16x262144, .i32⟩
  | 79 => ⟨S_, .i32⟩
  | 80 => ⟨S16x262144, .i32⟩
  | 81 => ⟨S16x262144, .i32⟩
  | 82 => ⟨S16, .i32⟩
  | 83 => ⟨S16x1, .i32⟩
  | 84 => ⟨S_, .i32⟩
  | 85 => ⟨S16x1, .i32⟩
  | 86 => ⟨S16x1, .i32⟩
  | 87 => ⟨S_, .i32⟩
  | 88 => ⟨S16x262144, .i32⟩
  | 89 => ⟨S16x262144, .i32⟩
  | 90 => ⟨S16x262144, .i32⟩
  | 91 => ⟨S16x262144, .i32⟩
  | 92 => ⟨S16x262144, .i32⟩
  | 93 => ⟨S4194304, .i32⟩
  | 94 => ⟨S4194304, .f32⟩
  | 95 => ⟨S_, .f32⟩
  | 96 => ⟨S65536, .f32⟩
  | 97 => ⟨S4194304x1, .i32⟩
  | 98 => ⟨S65536, .f32⟩
  | 99 => ⟨S16x64x64, .f32⟩
  | 100 => ⟨S_, .f32⟩
  | 101 => ⟨S16, .f32⟩
  | 102 => ⟨S16x1x1, .f32⟩
  | 103 => ⟨S16x64x64, .f32⟩
  | 104 => ⟨S16x64x64, .f32⟩
  | 105 => ⟨S16x64x64, .f32⟩
  | 106 => ⟨S16x1x64x64, .f32⟩
  | 107 => ⟨S16x1x512x512, .f32⟩
  | 108 => ⟨S16x512x512, .f32⟩
  | 109 => ⟨S16x262144, .f32⟩
  | 110 => ⟨S_, .f32⟩
  | 111 => ⟨S16x262144, .f32⟩
  | 112 => ⟨S16x262144, .f32⟩
  | 113 => ⟨S_, .f32⟩
  | 114 => ⟨S16x262144, .f32⟩
  | 115 => ⟨S16x262144, .f32⟩
  | 116 => ⟨S_, .f32⟩
  | 117 => ⟨S16x262144, .f32⟩
  | 118 => ⟨S16x262144, .i1⟩
  | 119 => ⟨S_, .f32⟩
  | 120 => ⟨S16x262144, .f32⟩
  | 121 => ⟨S16x262144, .i1⟩
  | 122 => ⟨S16x262144, .i1⟩
  | 123 => ⟨S_, .f32⟩
  | 124 => ⟨S16x262144, .f32⟩
  | 125 => ⟨S16x262144, .i1⟩
  | 126 => ⟨S16x262144, .i1⟩
  | 127 => ⟨S16x262144, .f32⟩
  | _ => ⟨S16x2048, .f32⟩

abbrev hbmTy0_1 (i : Nat) : BufTy := match i % 128 with
  | 0 => ⟨S_, .f32⟩
  | 1 => ⟨S16x262144, .f32⟩
  | 2 => ⟨S16x262144, .f32⟩
  | 3 => ⟨S16x262144, .f32⟩
  | 4 => ⟨S16x262144, .i32⟩
  | 5 => ⟨S_, .i32⟩
  | 6 => ⟨S_, .i32⟩
  | 7 => ⟨S_, .i32⟩
  | 8 => ⟨S16x262144, .i32⟩
  | 9 => ⟨S16x262144, .i32⟩
  | 10 => ⟨S_, .i32⟩
  | 11 => ⟨S16x262144, .i32⟩
  | 12 => ⟨S16x262144, .i32⟩
  | 13 => ⟨S16, .i32⟩
  | 14 => ⟨S16x1, .i32⟩
  | 15 => ⟨S_, .i32⟩
  | 16 => ⟨S16x1, .i32⟩
  | 17 => ⟨S16x1, .i32⟩
  | 18 => ⟨S16x262144, .i32⟩
  | 19 => ⟨S16x262144, .i32⟩
  | 20 => ⟨S4194304, .i32⟩
  | 21 => ⟨S4194304, .f32⟩
  | 22 => ⟨S_, .f32⟩
  | 23 => ⟨S128, .f32⟩
  | 24 => ⟨S4194304x1, .i32⟩
  | 25 => ⟨S128, .f32⟩
  | 26 => ⟨S16x8, .f32⟩
  | 27 => ⟨S_, .f32⟩
  | 28 => ⟨S16, .f32⟩
  | 29 => ⟨S16x1, .f32⟩
  | 30 => ⟨S16x8, .f32⟩
  | 31 => ⟨S16x8, .f32⟩
  | 32 => ⟨S16x8x1x1, .f32⟩
  | 33 => ⟨S16x8x64x64, .f32⟩
  | 34 => ⟨S16x9x64x64, .f32⟩
  | 35 => ⟨S_, .i32⟩
  | 36 => ⟨S_, .f32⟩
  | 37 => ⟨S16x9x66x66, .f32⟩
  | 38 => ⟨S128x9, .f32⟩
  | 39 => ⟨S16x66x66x128, .f32⟩
  | 40 => ⟨S16x128x66x66, .f32⟩
  | 41 => ⟨S_, .f32⟩
  | 42 => ⟨S16x128x66x66, .f32⟩
  | 43 => ⟨S16x128x66x66, .f32⟩
  | 44 => ⟨S_, .f32⟩
  | 45 => ⟨S128, .f32⟩
  | 46 => ⟨S128, .f32⟩
  | 47 => ⟨S128, .f32⟩
  | 48 => ⟨S128, .f32⟩
  | 49 => ⟨S1x128x1x1, .f32⟩
  | 50 => ⟨S16x128x66x66, .f32⟩
  | 51 => ⟨S16x128x66x66, .f32⟩
  | 52 => ⟨S128, .f32⟩
  | 53 => ⟨S128, .f32⟩
  | 54 => ⟨S1x128x1x1, .f32⟩
  | 55 => ⟨S16x128x66x66, .f32⟩
  | 56 => ⟨S16x128x66x66, .f32⟩
  | 57 => ⟨S_, .f32⟩
  | 58 => ⟨S_, .f32⟩
  | 59 => ⟨S16x128x68x68, .f32⟩
  | 60 => ⟨S16x128x33x33, .f32⟩
  | 61 => ⟨S16x128x33x33, .f32⟩
  | 62 => ⟨S16x128x33x33, .f32⟩
  | 63 => ⟨S16x128x33x33, .f32⟩
  | 64 => ⟨S16x128x33x33, .f32⟩
  | 65 => ⟨S16x128x33x33, .f32⟩
  | 66 => ⟨S16x128x33x33, .f32⟩
  | 67 => ⟨S16x128x33x33, .f32⟩
  | 68 => ⟨S16x128x33x33, .f32⟩
  | 69 => ⟨S16x128x33x33, .f32⟩
  | 70 => ⟨S16x128x33x33, .f32⟩
  | 71 => ⟨S16x128x33x33, .f32⟩
  | 72 => ⟨S16x128x33x33, .f32⟩
  | 73 => ⟨S16x128x33x33, .f32⟩
  | 74 => ⟨S16x128x33x33, .f32⟩
  | 75 => ⟨S16x128x33x33, .f32⟩
  | 76 => ⟨S16x128x33x33, .f32⟩
  | 77 => ⟨S_, .f32⟩
  | 78 => ⟨S16x128x33x33, .f32⟩
  | 79 => ⟨S16x128x33x33, .f32⟩
  | 80 => ⟨S_, .i32⟩
  | 81 => ⟨S_, .f32⟩
  | 82 => ⟨S16x128x35x35, .f32⟩
  | 83 => ⟨S1024x128x1x1, .f32⟩
  | 84 => ⟨S1024x128, .f32⟩
  | 85 => ⟨S16x128x33x33, .f32⟩
  | 86 => ⟨S16x33x33x1024, .f32⟩
  | 87 => ⟨S16x1024x33x33, .f32⟩
  | 88 => ⟨S_, .f32⟩
  | 89 => ⟨S16x1024x33x33, .f32⟩
  | 90 => ⟨S16x1024x33x33, .f32⟩
  | 91 => ⟨S1024x128x1x1, .f32⟩
  | 92 => ⟨S1024x128, .f32⟩
  | 93 => ⟨S16x128x33x33, .f32⟩
  | 94 => ⟨S16x33x33x1024, .f32⟩
  | 95 => ⟨S16x1024x33x33, .f32⟩
  | 96 => ⟨S16x1024x33x33, .f32⟩
  | 97 => ⟨S1024x128x1x1, .f32⟩
  | 98 => ⟨S1024x128, .f32⟩
  | 99 => ⟨S16x128x33x33, .f32⟩
  | 100 => ⟨S16x33x33x1024, .f32⟩
  | 101 => ⟨S16x1024x33x33, .f32⟩
  | 102 => ⟨S16x1024x33x33, .f32⟩
  | 103 => ⟨S1024x128x1x1, .f32⟩
  | 104 => ⟨S1024x128, .f32⟩
  | 105 => ⟨S16x128x33x33, .f32⟩
  | 106 => ⟨S16x33x33x1024, .f32⟩
  | 107 => ⟨S16x1024x33x33, .f32⟩
  | 108 => ⟨S16x1024x33x33, .f32⟩
  | 109 => ⟨S1024x128x1x1, .f32⟩
  | 110 => ⟨S1024x128, .f32⟩
  | 111 => ⟨S16x128x33x33, .f32⟩
  | 112 => ⟨S16x33x33x1024, .f32⟩
  | 113 => ⟨S16x1024x33x33, .f32⟩
  | 114 => ⟨S16x1024x33x33, .f32⟩
  | 115 => ⟨S1024x128x1x1, .f32⟩
  | 116 => ⟨S1024x128, .f32⟩
  | 117 => ⟨S16x128x33x33, .f32⟩
  | 118 => ⟨S16x33x33x1024, .f32⟩
  | 119 => ⟨S16x1024x33x33, .f32⟩
  | 120 => ⟨S16x1024x33x33, .f32⟩
  | 121 => ⟨S1024x128x1x1, .f32⟩
  | 122 => ⟨S1024x128, .f32⟩
  | 123 => ⟨S16x128x33x33, .f32⟩
  | 124 => ⟨S16x33x33x1024, .f32⟩
  | 125 => ⟨S16x1024x33x33, .f32⟩
  | 126 => ⟨S16x1024x33x33, .f32⟩
  | 127 => ⟨S1024x128x1x1, .f32⟩
  | _ => ⟨S16x2048, .f32⟩

abbrev hbmTy0_2 (i : Nat) : BufTy := match i % 128 with
  | 0 => ⟨S1024x128, .f32⟩
  | 1 => ⟨S16x128x33x33, .f32⟩
  | 2 => ⟨S16x33x33x1024, .f32⟩
  | 3 => ⟨S16x1024x33x33, .f32⟩
  | 4 => ⟨S16x1024x33x33, .f32⟩
  | 5 => ⟨S1024x128x1x1, .f32⟩
  | 6 => ⟨S1024x128, .f32⟩
  | 7 => ⟨S16x128x33x33, .f32⟩
  | 8 => ⟨S16x33x33x1024, .f32⟩
  | 9 => ⟨S16x1024x33x33, .f32⟩
  | 10 => ⟨S16x1024x33x33, .f32⟩
  | 11 => ⟨S_, .f32⟩
  | 12 => ⟨S1024, .f32⟩
  | 13 => ⟨S1024, .f32⟩
  | 14 => ⟨S1024, .f32⟩
  | 15 => ⟨S1024, .f32⟩
  | 16 => ⟨S1x1024x1x1, .f32⟩
  | 17 => ⟨S16x1024x33x33, .f32⟩
  | 18 => ⟨S16x1024x33x33, .f32⟩
  | 19 => ⟨S1024, .f32⟩
  | 20 => ⟨S1024, .f32⟩
  | 21 => ⟨S1x1024x1x1, .f32⟩
  | 22 => ⟨S16x1024x33x33, .f32⟩
  | 23 => ⟨S16x1024x33x33, .f32⟩
  | 24 => ⟨S_, .f32⟩
  | 25 => ⟨S16x1024x33x33, .f32⟩
  | 26 => ⟨S16x1024x33x33, .f32⟩
  | 27 => ⟨S_, .f32⟩
  | 28 => ⟨S16x1024, .f32⟩
  | 29 => ⟨S_, .f32⟩
  | 30 => ⟨S16x1024, .f32⟩
  | 31 => ⟨S16x1024, .f32⟩
  | 32 => ⟨S1024x256, .f32⟩
  | 33 => ⟨S16x256, .f32⟩
  | 34 => ⟨S1x256, .f32⟩
  | 35 => ⟨S16x256, .f32⟩
  | 36 => ⟨S16x256, .f32⟩
  | 37 => ⟨S16x2304, .f32⟩
  | _ => ⟨S16x2048, .f32⟩

abbrev hbmTy (i : Nat) : BufTy := match i / 128 with
  | 0 => hbmTy0_0 i
  | 1 => hbmTy0_1 i
  | 2 => hbmTy0_2 i
  | _ => ⟨S16x2048, .f32⟩

abbrev bufTy : (tb : Table) → Fin (tcTables nBuf tb) → BufTy
  | .hbm, ⟨i, _⟩ => hbmTy i
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c : Ref sig .tc := ⟨.hbm, 61, rfl⟩
abbrev main_c_10 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v36 : Ref sig .tc := ⟨.hbm, 68, rfl⟩
abbrev main_cst_11 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_12 : Ref sig .tc := ⟨.hbm, 74, rfl⟩
abbrev main_c_13 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_14 : Ref sig .tc := ⟨.hbm, 84, rfl⟩
abbrev main_v44 : Ref sig .tc := ⟨.hbm, 85, rfl⟩
abbrev main_v45 : Ref sig .tc := ⟨.hbm, 86, rfl⟩
abbrev main_c_15 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_16 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_17 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_18 : Ref sig .tc := ⟨.hbm, 110, rfl⟩
abbrev main_v66 : Ref sig .tc := ⟨.hbm, 111, rfl⟩
abbrev main_v67 : Ref sig .tc := ⟨.hbm, 112, rfl⟩
abbrev main_cst_19 : Ref sig .tc := ⟨.hbm, 113, rfl⟩
abbrev main_v68 : Ref sig .tc := ⟨.hbm, 114, rfl⟩
abbrev main_v69 : Ref sig .tc := ⟨.hbm, 115, rfl⟩
abbrev main_cst_20 : Ref sig .tc := ⟨.hbm, 116, rfl⟩
abbrev main_v70 : Ref sig .tc := ⟨.hbm, 117, rfl⟩
abbrev main_v71 : Ref sig .tc := ⟨.hbm, 118, rfl⟩
abbrev main_cst_21 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_22 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_23 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_c_24 : Ref sig .tc := ⟨.hbm, 133, rfl⟩
abbrev main_c_25 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_c_26 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_27 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_28 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_29 : Ref sig .tc := ⟨.hbm, 163, rfl⟩
abbrev main_call3_v0 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_30 : Ref sig .tc := ⟨.hbm, 169, rfl⟩
abbrev main_v107 : Ref sig .tc := ⟨.hbm, 170, rfl⟩
abbrev main_v108 : Ref sig .tc := ⟨.hbm, 171, rfl⟩
abbrev main_cst_31 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_32 : Ref sig .tc := ⟨.hbm, 185, rfl⟩
abbrev main_call4_v0 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_call5_cst : Ref sig .tc := ⟨.hbm, 205, rfl⟩
abbrev main_call5_v0 : Ref sig .tc := ⟨.hbm, 206, rfl⟩
abbrev main_v139 : Ref sig .tc := ⟨.hbm, 207, rfl⟩
abbrev main_c_33 : Ref sig .tc := ⟨.hbm, 208, rfl⟩
abbrev main_call6_v0 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_cst_34 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_cst_35 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_call7_cst : Ref sig .tc := ⟨.hbm, 280, rfl⟩
abbrev main_call7_v0 : Ref sig .tc := ⟨.hbm, 281, rfl⟩
abbrev main_v208 : Ref sig .tc := ⟨.hbm, 282, rfl⟩
abbrev main_cst_36 : Ref sig .tc := ⟨.hbm, 283, rfl⟩
abbrev main_v209 : Ref sig .tc := ⟨.hbm, 284, rfl⟩
abbrev main_cst_37 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩

abbrev nD : Nat := 1
abbrev τ : Topo := Topo.v7x

variable {F : FTy → Type} [FloatOps F]
-- ==== Proof.Spec.lean ====
/- The mathematics of the problem on plain indices: what the histograms count, what each layer of the
   network is, for one image. Both programs are shown to compute these functions. -/
module

public import Idealize.ShloMosaic.PureOps.Ideal.Laws

@[expose] public section

noncomputable section

namespace Cert.Hen

open Idealize.ShloMosaic

/-- The word of `0.0`. -/
def w0 : EReal := Ideal.ofBits .f32 0x00000000#32
/-- The word of `1.0`. -/
def wOne : EReal := Ideal.ofBits .f32 0x3F800000#32
/-- The word of `0.5`. -/
def wHalf : EReal := Ideal.ofBits .f32 0x3F000000#32
/-- The word of `64.0`. -/
def w64 : EReal := Ideal.ofBits .f32 0x42800000#32
/-- The word of `8.0`. -/
def w8 : EReal := Ideal.ofBits .f32 0x41000000#32
/-- The word both normalisations add to the variance. -/
def wEps : EReal := Ideal.ofBits .f32 0x3727C5AC#32
/-- The word of the most negative mask the kernel pads with. -/
def wNeg : EReal := Ideal.ofBits .f32 0xF149F2CA#32
/-- The word of the largest mask the kernel pads with. -/
def wPos : EReal := Ideal.ofBits .f32 0x7149F2CA#32

/-- A colour value moved from [-1, 1] to [0, 1]. -/
def unit (a : EReal) : EReal := (a + wOne) * wHalf

/-- Whether a pixel counts in the a/b histogram. -/
def okAB (a b : EReal) : BitVec 1 :=
  IntOp.andi (IntOp.andi (IntOp.andi (IntOp.andi (IntOp.andi (Ideal.cmp .one a w0) (Ideal.cmp .one b w0))
    (Ideal.cmp .oge (unit a) w0)) (Ideal.cmp .ole (unit a) wOne)) (Ideal.cmp .oge (unit b) w0)) (Ideal.cmp .ole (unit b) wOne)

/-- Whether a pixel counts in the lightness histogram. -/
def okL (l : EReal) : BitVec 1 :=
  IntOp.andi (IntOp.andi (Ideal.cmp .one l w0) (Ideal.cmp .oge (unit l) w0)) (Ideal.cmp .ole (unit l) wOne)

/-- One where the bit is set, zero elsewhere. -/
def ind (c : BitVec 1) : EReal := if c = 1#1 then 1 else 0

/-- The bin of a value on the 64-bin axes. -/
def binAB (a : EReal) : BitVec 32 :=
  IntOp.minsi 63#32 (IntOp.maxsi 0#32 (Ideal.fptosi 32 (Ideal.liftRound Int.floor (unit a * w64))))

/-- The bin of a value on the 8-bin axis. -/
def binL (l : EReal) : BitVec 32 :=
  IntOp.minsi 7#32 (IntOp.maxsi 0#32 (Ideal.fptosi 32 (Ideal.liftRound Int.floor (unit l * w8))))

/-- What the pixel (y, x) adds to cell (p, q) of the a/b histogram: row `p` is the bin of b, column `q` the bin of a. -/
def termAB (img : Fin 3 → Fin 512 → Fin 512 → EReal) (p q : Fin 64) (y x : Fin 512) : EReal :=
  if binAB (img 2 y x) = BitVec.ofNat 32 p.val ∧ binAB (img 1 y x) = BitVec.ofNat 32 q.val then
    ind (okAB (img 1 y x) (img 2 y x)) else 0

/-- What the pixel (y, x) adds to bin `k` of the lightness histogram. -/
def termL (img : Fin 3 → Fin 512 → Fin 512 → EReal) (k : Fin 8) (y x : Fin 512) : EReal :=
  if binL (img 0 y x) = BitVec.ofNat 32 k.val then ind (okL (img 0 y x)) else 0

/-- The a/b counts. -/
def cntAB (img : Fin 3 → Fin 512 → Fin 512 → EReal) (p q : Fin 64) : EReal := ∑ y, ∑ x, termAB img p q y x

/-- The lightness counts. -/
def cntL (img : Fin 3 → Fin 512 → Fin 512 → EReal) (k : Fin 8) : EReal := ∑ y, ∑ x, termL img k y x

/-- The a/b histogram, summing to one. -/
def hAB (img : Fin 3 → Fin 512 → Fin 512 → EReal) (p q : Fin 64) : EReal :=
  Ideal.div (cntAB img p q) (∑ p', ∑ q', cntAB img p' q')

/-- The lightness histogram, summing to one. -/
def hL (img : Fin 3 → Fin 512 → Fin 512 → EReal) (k : Fin 8) : EReal :=
  Ideal.div (cntL img k) (∑ k', cntL img k')

/-- A normalisation's multiplier. -/
def bnInv (g v : EReal) : EReal := g * Ideal.rsqrt (v + wEps)

/-- A normalisation's shift. -/
def bnShift (g b m v : EReal) : EReal := b - m * bnInv g v

/-- A cell of the 68 by 68 board (the 64 by 64 histogram, the convolution's ring, the pooling's ring) holds a histogram cell. -/
def inner (r c : ℕ) : Prop := 2 ≤ r ∧ r ≤ 65 ∧ 2 ≤ c ∧ c ≤ 65

instance (r c : ℕ) : Decidable (inner r c) := by unfold inner; infer_instance

/-- A cell of the board lies in the convolution's output. -/
def outer (r c : ℕ) : Prop := 1 ≤ r ∧ r ≤ 66 ∧ 1 ≤ c ∧ c ≤ 66

instance (r c : ℕ) : Decidable (outer r c) := by unfold outer; infer_instance

/-- The histogram on the board, `e` outside it. -/
def onBoard (h : Fin 64 → Fin 64 → EReal) (e : EReal) (r c : ℕ) : EReal :=
  if hc : inner r c then h ⟨r - 2, by unfold inner at hc; omega⟩ ⟨c - 2, by unfold inner at hc; omega⟩ else e

/-- The normalised first layer of one channel on the board: the affine map of the histogram cell, the shift on the
    convolution's ring, minus infinity on the pooling's ring. -/
def board (h : Fin 64 → Fin 64 → EReal) (a s i t : EReal) (r c : ℕ) : EReal :=
  if hc : inner r c then
    (h ⟨r - 2, by unfold inner at hc; omega⟩ ⟨c - 2, by unfold inner at hc; omega⟩ * a + s) * i + t
  else if outer r c then t else ⊥

/-- The largest of the nine cells of a window. -/
def max9 (f : ℕ → ℕ → EReal) (r c : ℕ) : EReal :=
  max (max (max (max (max (max (max (max (f r c) (f r (c + 1))) (f r (c + 2))) (f (r + 1) c)) (f (r + 1) (c + 1)))
    (f (r + 1) (c + 2))) (f (r + 2) c)) (f (r + 2) (c + 1))) (f (r + 2) (c + 2))

/-- The pooled and rectified first layer of one channel. -/
def pooled (h : Fin 64 → Fin 64 → EReal) (a s i t : EReal) (r c : Fin 33) : EReal :=
  max (max9 (board h a s i t) (2 * r.val) (2 * c.val)) 0

/-- The rectified layer with a ring of zeros around. -/
def ringed (z : Fin 33 → Fin 33 → EReal) (r c : ℕ) : EReal :=
  if h : 1 ≤ r ∧ r ≤ 33 ∧ 1 ≤ c ∧ c ≤ 33 then z ⟨r - 1, by omega⟩ ⟨c - 1, by omega⟩ else 0

/-- One tap of the second convolution. -/
def tap (z : Fin 128 → Fin 33 → Fin 33 → EReal) (w : Fin 128 → EReal) (di dj : ℕ) (r c : Fin 33) : EReal :=
  ∑ k : Fin 128, ringed (z k) (r.val + di) (c.val + dj) * w k

/-- The second convolution at one output channel, whose weights are `w k di dj`. -/
def conv2 (z : Fin 128 → Fin 33 → Fin 33 → EReal) (w : Fin 128 → Fin 3 → Fin 3 → EReal) (r c : Fin 33) : EReal :=
  ∑ di : Fin 3, ∑ dj : Fin 3, tap z (fun k => w k di dj) di.val dj.val r c

/-- The second layer's mean at one output channel. -/
def mean2 (z : Fin 128 → Fin 33 → Fin 33 → EReal) (w : Fin 128 → Fin 3 → Fin 3 → EReal) (g b m v : EReal) : EReal :=
  (∑ r : Fin 33, ∑ c : Fin 33, max (conv2 z w r c * bnInv g v + bnShift g b m v) 0) * ((1 / 1089 : ℝ) : EReal)

/-- The first layer of one image: channel `o` pooled. -/
def layer1 (img : Fin 3 → Fin 512 → Fin 512 → EReal) (w1 : Fin 128 → Fin 9 → EReal) (g1 b1 m1 v1 : Fin 128 → EReal)
    (o : Fin 128) : Fin 33 → Fin 33 → EReal :=
  pooled (hAB img) (w1 o 0) (∑ k : Fin 8, hL img k * w1 o k.succ) (bnInv (g1 o) (v1 o))
    (bnShift (g1 o) (b1 o) (m1 o) (v1 o))

/-- The whole network on one image, at output `o`. -/
def net (img : Fin 3 → Fin 512 → Fin 512 → EReal) (w1 : Fin 128 → Fin 9 → EReal) (g1 b1 m1 v1 : Fin 128 → EReal)
    (w2 : Fin 1024 → Fin 128 → Fin 3 → Fin 3 → EReal) (g2 b2 m2 v2 : Fin 1024 → EReal)
    (wl : Fin 256 → Fin 1024 → EReal) (bl : Fin 256 → EReal) (o : Fin 256) : EReal :=
  (∑ k : Fin 1024, mean2 (layer1 img w1 g1 b1 m1 v1) (w2 k) (g2 k) (b2 k) (m2 k) (v2 k) * wl o k) + bl o

end Cert.Hen

end
-- ==== Proof.Pool.lean ====
/- The pooled first layer. The kernel pools the histogram (largest and smallest cell of each window) and applies
   the affine map afterwards; the mathematics applies the map to every cell and pools then. -/
module

public import proofs.«01_k».proof.Proof.Spec

@[expose] public section

noncomputable section

namespace Cert.Hen

open Idealize.ShloMosaic

/-- The smallest of the nine cells of a window. -/
def min9 (f : ℕ → ℕ → EReal) (r c : ℕ) : EReal :=
  min (min (min (min (min (min (min (min (f r c) (f r (c + 1))) (f r (c + 2))) (f (r + 1) c)) (f (r + 1) (c + 1)))
    (f (r + 1) (c + 2))) (f (r + 2) c)) (f (r + 2) (c + 1))) (f (r + 2) (c + 2))

/-- The largest cell is bounded by what bounds all nine. -/
theorem max9_le_iff (f : ℕ → ℕ → EReal) (r c : ℕ) (z : EReal) :
    max9 f r c ≤ z ↔ ∀ d < 3, ∀ e < 3, f (r + d) (c + e) ≤ z := by
  unfold max9
  simp only [max_le_iff]
  constructor
  · rintro ⟨⟨⟨⟨⟨⟨⟨⟨h0, h1⟩, h2⟩, h3⟩, h4⟩, h5⟩, h6⟩, h7⟩, h8⟩ d hd e he
    interval_cases d <;> interval_cases e <;> assumption
  · intro h
    exact ⟨⟨⟨⟨⟨⟨⟨⟨h 0 (by omega) 0 (by omega), h 0 (by omega) 1 (by omega)⟩, h 0 (by omega) 2 (by omega)⟩,
      h 1 (by omega) 0 (by omega)⟩, h 1 (by omega) 1 (by omega)⟩, h 1 (by omega) 2 (by omega)⟩,
      h 2 (by omega) 0 (by omega)⟩, h 2 (by omega) 1 (by omega)⟩, h 2 (by omega) 2 (by omega)⟩

/-- The smallest cell bounds from below what all nine bound. -/
theorem le_min9_iff (f : ℕ → ℕ → EReal) (r c : ℕ) (z : EReal) :
    z ≤ min9 f r c ↔ ∀ d < 3, ∀ e < 3, z ≤ f (r + d) (c + e) := by
  unfold min9
  simp only [le_min_iff]
  constructor
  · rintro ⟨⟨⟨⟨⟨⟨⟨⟨h0, h1⟩, h2⟩, h3⟩, h4⟩, h5⟩, h6⟩, h7⟩, h8⟩ d hd e he
    interval_cases d <;> interval_cases e <;> assumption
  · intro h
    exact ⟨⟨⟨⟨⟨⟨⟨⟨h 0 (by omega) 0 (by omega), h 0 (by omega) 1 (by omega)⟩, h 0 (by omega) 2 (by omega)⟩,
      h 1 (by omega) 0 (by omega)⟩, h 1 (by omega) 1 (by omega)⟩, h 1 (by omega) 2 (by omega)⟩,
      h 2 (by omega) 0 (by omega)⟩, h 2 (by omega) 1 (by omega)⟩, h 2 (by omega) 2 (by omega)⟩

/-- The largest cell is one of the nine. -/
theorem max9_mem (f : ℕ → ℕ → EReal) (r c : ℕ) : ∃ d < 3, ∃ e < 3, max9 f r c = f (r + d) (c + e) := by
  by_contra hne
  push Not at hne
  have hlt : ∀ d < 3, ∀ e < 3, f (r + d) (c + e) < max9 f r c := fun d hd e he =>
    lt_of_le_of_ne ((max9_le_iff f r c _).1 le_rfl d hd e he) (Ne.symm (hne d hd e he))
  have h : max9 f r c < max9 f r c := by
    conv_lhs => unfold max9
    simp only [max_lt_iff]
    exact ⟨⟨⟨⟨⟨⟨⟨⟨hlt 0 (by omega) 0 (by omega), hlt 0 (by omega) 1 (by omega)⟩, hlt 0 (by omega) 2 (by omega)⟩,
      hlt 1 (by omega) 0 (by omega)⟩, hlt 1 (by omega) 1 (by omega)⟩, hlt 1 (by omega) 2 (by omega)⟩,
      hlt 2 (by omega) 0 (by omega)⟩, hlt 2 (by omega) 1 (by omega)⟩, hlt 2 (by omega) 2 (by omega)⟩
  exact lt_irrefl _ h

/-- The smallest cell is one of the nine. -/
theorem min9_mem (f : ℕ → ℕ → EReal) (r c : ℕ) : ∃ d < 3, ∃ e < 3, min9 f r c = f (r + d) (c + e) := by
  by_contra hne
  push Not at hne
  have hlt : ∀ d < 3, ∀ e < 3, min9 f r c < f (r + d) (c + e) := fun d hd e he =>
    lt_of_le_of_ne ((le_min9_iff f r c _).1 le_rfl d hd e he) (hne d hd e he)
  have h : min9 f r c < min9 f r c := by
    conv_rhs => unfold min9
    simp only [lt_min_iff]
    exact ⟨⟨⟨⟨⟨⟨⟨⟨hlt 0 (by omega) 0 (by omega), hlt 0 (by omega) 1 (by omega)⟩, hlt 0 (by omega) 2 (by omega)⟩,
      hlt 1 (by omega) 0 (by omega)⟩, hlt 1 (by omega) 1 (by omega)⟩, hlt 1 (by omega) 2 (by omega)⟩,
      hlt 2 (by omega) 0 (by omega)⟩, hlt 2 (by omega) 1 (by omega)⟩, hlt 2 (by omega) 2 (by omega)⟩
  exact lt_irrefl _ h

/-- Every pooling window holds a histogram cell. -/
theorem window_inner (r c : Fin 33) : ∃ d < 3, ∃ e < 3, inner (2 * r.val + d) (2 * c.val + e) := by
  have hr := r.isLt
  have hc := c.isLt
  refine ⟨if r.val = 0 then 2 else 0, by split <;> omega, if c.val = 0 then 2 else 0, by split <;> omega, ?_⟩
  unfold inner
  split <;> split <;> omega

/-- A window on the rim of the pooled layer touches the convolution's ring, and no other window does. -/
theorem window_ring (r c : Fin 33) :
    (∃ d < 3, ∃ e < 3, outer (2 * r.val + d) (2 * c.val + e) ∧ ¬ inner (2 * r.val + d) (2 * c.val + e)) ↔
      (r.val = 0 ∨ r.val = 32 ∨ c.val = 0 ∨ c.val = 32) := by
  have hr := r.isLt
  have hc := c.isLt
  constructor
  · rintro ⟨d, hd, e, he, ho, hi⟩
    unfold outer at ho
    unfold inner at hi
    omega
  · intro h
    refine ⟨if r.val = 32 then 2 else 1, by split <;> omega, if c.val = 32 then 2 else 1, by split <;> omega, ?_, ?_⟩
    · unfold outer
      split <;> split <;> omega
    · unfold inner
      split <;> split <;> omega

section

variable (hr : Fin 64 → Fin 64 → ℝ) (w i : ℝ) (s t : EReal)

/-- The affine map of one cell, its product with the multiplier taken first; the constant may be infinite. -/
theorem affine_split (x : ℝ) :
    ((x : EReal) * (w : EReal) + s) * (i : EReal) + t =
      (x : EReal) * ((w : EReal) * (i : EReal)) + (s * (i : EReal) + t) := by
  have : ((x : EReal) * (w : EReal) + s) * (i : EReal) = (x : EReal) * ((w : EReal) * (i : EReal)) + s * (i : EReal) := by
    rw [← EReal.coe_mul, ← EReal.coe_mul, ← EReal.coe_mul]
    induction s using EReal.rec with
    | coe s =>
      norm_cast
      ring
    | bot =>
      rw [EReal.add_bot]
      rcases lt_trichotomy i 0 with h | h | h
      · rw [EReal.bot_mul_coe_of_neg h, EReal.coe_add_top]
      · subst h
        simp
      · rw [EReal.bot_mul_coe_of_pos h, EReal.add_bot]
    | top =>
      rw [EReal.coe_add_top]
      rcases lt_trichotomy i 0 with h | h | h
      · rw [EReal.top_mul_coe_of_neg h, EReal.add_bot]
      · subst h
        simp
      · rw [EReal.top_mul_coe_of_pos h, EReal.coe_add_top]
  rw [this, add_assoc]

/-- The affine map keeps the order where its slope is not negative. -/
theorem affine_mono (hp : 0 ≤ w * i) {x y : ℝ} (h : x ≤ y) (u : EReal) :
    (x : EReal) * ((w : EReal) * (i : EReal)) + u ≤ (y : EReal) * ((w : EReal) * (i : EReal)) + u := by
  refine add_le_add ?_ le_rfl
  norm_cast
  exact mul_le_mul_of_nonneg_right h hp

/-- The affine map reverses the order where its slope is not positive. -/
theorem affine_anti (hp : w * i ≤ 0) {x y : ℝ} (h : x ≤ y) (u : EReal) :
    (y : EReal) * ((w : EReal) * (i : EReal)) + u ≤ (x : EReal) * ((w : EReal) * (i : EReal)) + u := by
  refine add_le_add ?_ le_rfl
  norm_cast
  exact mul_le_mul_of_nonpos_right h hp

/-- The value of the affine map at the window's extreme cell (the largest for a positive slope, the smallest for a
    negative one) is the largest value of the map on the window's histogram cells. -/
theorem extreme (h0 : ∀ p q, 0 ≤ hr p q) (h1 : ∀ p q, hr p q ≤ 1) {lo hi : EReal} (hlo : lo < 0) (hhi : 1 < hi)
    (r c : Fin 33) :
    ∃ d < 3, ∃ e < 3, inner (2 * r.val + d) (2 * c.val + e) ∧
      max9 (onBoard (fun p q => (hr p q : EReal)) lo) (2 * r.val) (2 * c.val) * max ((w : EReal) * (i : EReal)) 0 +
          min9 (onBoard (fun p q => (hr p q : EReal)) hi) (2 * r.val) (2 * c.val) * min ((w : EReal) * (i : EReal)) 0 +
          (s * (i : EReal) + t) =
        board (fun p q => (hr p q : EReal)) w s i t (2 * r.val + d) (2 * c.val + e) ∧
      ∀ d' < 3, ∀ e' < 3, inner (2 * r.val + d') (2 * c.val + e') →
        board (fun p q => (hr p q : EReal)) w s i t (2 * r.val + d') (2 * c.val + e') ≤
          board (fun p q => (hr p q : EReal)) w s i t (2 * r.val + d) (2 * c.val + e) := by
  obtain ⟨d0, hd0, e0, he0, hin0⟩ := window_inner r c
  rcases le_total 0 (w * i) with hp | hp
  · obtain ⟨d, hd, e, he, hM⟩ := max9_mem (onBoard (fun p q => (hr p q : EReal)) lo) (2 * r.val) (2 * c.val)
    have hall := (max9_le_iff (onBoard (fun p q => (hr p q : EReal)) lo) (2 * r.val) (2 * c.val) _).1 le_rfl
    rw [hM] at hall
    have hin : inner (2 * r.val + d) (2 * c.val + e) := by
      by_contra hn
      have h2 := hall d0 hd0 e0 he0
      rw [onBoard, dif_pos hin0, onBoard, dif_neg hn] at h2
      exact absurd (lt_of_le_of_lt h2 hlo) (not_lt.2 (by exact_mod_cast h0 _ _))
    refine ⟨d, hd, e, he, hin, ?_, ?_⟩
    · rw [hM, onBoard, dif_pos hin, board, dif_pos hin, max_eq_left (by exact_mod_cast hp),
        min_eq_right (by exact_mod_cast hp), mul_zero, add_zero, affine_split]
    · intro d' hd' e' he' hin'
      have h2 := hall d' hd' e' he'
      rw [onBoard, dif_pos hin', onBoard, dif_pos hin] at h2
      rw [board, dif_pos hin', board, dif_pos hin, affine_split, affine_split]
      exact affine_mono w i hp (by exact_mod_cast h2) _
  · obtain ⟨d, hd, e, he, hM⟩ := min9_mem (onBoard (fun p q => (hr p q : EReal)) hi) (2 * r.val) (2 * c.val)
    have hall := (le_min9_iff (onBoard (fun p q => (hr p q : EReal)) hi) (2 * r.val) (2 * c.val) _).1 le_rfl
    rw [hM] at hall
    have hin : inner (2 * r.val + d) (2 * c.val + e) := by
      by_contra hn
      have h2 := hall d0 hd0 e0 he0
      rw [onBoard, dif_neg hn, onBoard, dif_pos hin0] at h2
      exact absurd (lt_of_lt_of_le hhi h2) (not_lt.2 (by exact_mod_cast h1 _ _))
    refine ⟨d, hd, e, he, hin, ?_, ?_⟩
    · rw [hM, onBoard, dif_pos hin, board, dif_pos hin, max_eq_right (by exact_mod_cast hp),
        min_eq_left (by exact_mod_cast hp), mul_zero, zero_add, affine_split]
    · intro d' hd' e' he' hin'
      have h2 := hall d' hd' e' he'
      rw [onBoard, dif_pos hin, onBoard, dif_pos hin'] at h2
      rw [board, dif_pos hin', board, dif_pos hin, affine_split, affine_split]
      exact affine_anti w i hp (by exact_mod_cast h2) _

/-- The kernel's pooled layer is the mathematics' one: the map of the window's extreme cell, the shift where the window
    touches the convolution's ring, rectified. -/
theorem pooled_eq (h0 : ∀ p q, 0 ≤ hr p q) (h1 : ∀ p q, hr p q ≤ 1) {lo hi : EReal} (hlo : lo < 0) (hhi : 1 < hi)
    (r c : Fin 33) :
    max (max (max9 (onBoard (fun p q => (hr p q : EReal)) lo) (2 * r.val) (2 * c.val) * max ((w : EReal) * (i : EReal)) 0 +
          min9 (onBoard (fun p q => (hr p q : EReal)) hi) (2 * r.val) (2 * c.val) * min ((w : EReal) * (i : EReal)) 0 +
          (s * (i : EReal) + t))
        (if r.val = 0 ∨ r.val = 32 ∨ c.val = 0 ∨ c.val = 32 then t else lo)) 0 =
      pooled (fun p q => (hr p q : EReal)) w s i t r c := by
  obtain ⟨d, hd, e, he, hin, hX, hbest⟩ := extreme hr w i s t h0 h1 hlo hhi r c
  rw [hX]
  refine eq_of_forall_ge_iff fun z => ?_
  unfold pooled
  rw [max_le_iff, max_le_iff, max_le_iff, max9_le_iff]
  constructor
  · rintro ⟨⟨hb, hrim⟩, hz⟩
    refine ⟨fun d' hd' e' he' => ?_, hz⟩
    by_cases hi' : inner (2 * r.val + d') (2 * c.val + e')
    · exact (hbest d' hd' e' he' hi').trans hb
    · rw [board, dif_neg hi']
      split
      · rename_i ho
        rw [if_pos ((window_ring r c).1 ⟨d', hd', e', he', ho, hi'⟩)] at hrim
        exact hrim
      · exact bot_le
  · rintro ⟨hall, hz⟩
    refine ⟨⟨hall d hd e he, ?_⟩, hz⟩
    split
    · rename_i hrim
      obtain ⟨d', hd', e', he', ho, hi'⟩ := (window_ring r c).2 hrim
      have := hall d' hd' e' he'
      rwa [board, dif_neg hi', if_pos ho] at this
    · exact hlo.le.trans hz

end

end Cert.Hen

end
-- ==== Proof.Lay.lean ====
/- Layout operations read at an index: an array between two constant slabs, strided slices, padding, and the plain
   matrix product as a sum over its contracted coordinate. -/
module

public import Idealize.ShloMosaic.Lib.Pipeline.Value
public import Idealize.ShloMosaic.Lib.ValueIdx
public import Idealize.ShloMosaic.Lib.ValueLayout
public import Idealize.ShloMosaic.Lib.MatmulPlain
public import Idealize.ShloMosaic.PureOps.Ideal.Laws

@[expose] public section

noncomputable section

namespace Cert.Hen

open Idealize.ShloMosaic Idealize.ShloMosaic.ValueIdx

variable {α : Type}

/-- A matrix between two constant columns. -/
theorem between_cols {a b n : ℕ} (e : α) (x : (⟨2, ![a, b]⟩ : Shape).Idx → α)
    (h : Shape.Concatenates [⟨2, ![a, 1]⟩, ⟨2, ![a, b]⟩, ⟨2, ![a, 1]⟩] ⟨2, ![a, n]⟩ 1) (i : Fin a) (j : Fin n) :
    concatenate ⟨2, ![a, n]⟩ 1 [⟨⟨2, ![a, 1]⟩, broadcast _ e⟩, ⟨⟨2, ![a, b]⟩, x⟩, ⟨⟨2, ![a, 1]⟩, broadcast _ e⟩] h (ix2 i j) =
      if hj : 1 ≤ j.val ∧ j.val ≤ b then x (ix2 i ⟨j.val - 1, by omega⟩) else e := by
  have hn : 1 + (b + (1 + 0)) = n := h.2.2
  have hjn := j.isLt
  split
  · rename_i hj
    refine concatenate_apply_piece (t := ⟨2, ![a, n]⟩) (1 : Fin 2)
      [⟨⟨2, ![a, 1]⟩, broadcast _ e⟩, ⟨⟨2, ![a, b]⟩, x⟩, ⟨⟨2, ![a, 1]⟩, broadcast _ e⟩] h (ix2 i j) 1 (by simp) ⟨2, ![a, b]⟩ x rfl rfl 1 rfl
      (ix2 i ⟨j.val - 1, by omega⟩) ?_ ?_
    · intro k hk
      match k with
      | ⟨0, _⟩ => rfl
      | ⟨1, _⟩ => exact absurd rfl hk
    · show 1 + (j.val - 1) = j.val
      omega
  · rename_i hj
    by_cases h0 : j.val = 0
    · refine (concatenate_apply_piece (t := ⟨2, ![a, n]⟩) (1 : Fin 2)
      [⟨⟨2, ![a, 1]⟩, broadcast _ e⟩, ⟨⟨2, ![a, b]⟩, x⟩, ⟨⟨2, ![a, 1]⟩, broadcast _ e⟩] h (ix2 i j) 0 (by simp) ⟨2, ![a, 1]⟩ (broadcast _ e) rfl rfl 0 rfl
        (ix2 i ⟨0, by omega⟩) ?_ ?_).trans rfl
      · intro k hk
        match k with
        | ⟨0, _⟩ => rfl
        | ⟨1, _⟩ => exact absurd rfl hk
      · show 0 + 0 = j.val
        omega
    · refine (concatenate_apply_piece (t := ⟨2, ![a, n]⟩) (1 : Fin 2)
      [⟨⟨2, ![a, 1]⟩, broadcast _ e⟩, ⟨⟨2, ![a, b]⟩, x⟩, ⟨⟨2, ![a, 1]⟩, broadcast _ e⟩] h (ix2 i j) 2 (by simp) ⟨2, ![a, 1]⟩ (broadcast _ e) rfl rfl (1 + b) rfl
        (ix2 i ⟨0, by omega⟩) ?_ ?_).trans rfl
      · intro k hk
        match k with
        | ⟨0, _⟩ => rfl
        | ⟨1, _⟩ => exact absurd rfl hk
      · show 1 + b + 0 = j.val
        omega

/-- A matrix between two constant rows. -/
theorem between_rows {a b n : ℕ} (e : α) (x : (⟨2, ![a, b]⟩ : Shape).Idx → α)
    (h : Shape.Concatenates [⟨2, ![1, b]⟩, ⟨2, ![a, b]⟩, ⟨2, ![1, b]⟩] ⟨2, ![n, b]⟩ 0) (i : Fin n) (j : Fin b) :
    concatenate ⟨2, ![n, b]⟩ 0 [⟨⟨2, ![1, b]⟩, broadcast _ e⟩, ⟨⟨2, ![a, b]⟩, x⟩, ⟨⟨2, ![1, b]⟩, broadcast _ e⟩] h (ix2 i j) =
      if hi : 1 ≤ i.val ∧ i.val ≤ a then x (ix2 ⟨i.val - 1, by omega⟩ j) else e := by
  have hn : 1 + (a + (1 + 0)) = n := h.2.2
  have hin := i.isLt
  split
  · rename_i hj
    refine concatenate_apply_piece (t := ⟨2, ![n, b]⟩) (0 : Fin 2)
      [⟨⟨2, ![1, b]⟩, broadcast _ e⟩, ⟨⟨2, ![a, b]⟩, x⟩, ⟨⟨2, ![1, b]⟩, broadcast _ e⟩] h (ix2 i j) 1 (by simp) ⟨2, ![a, b]⟩ x rfl rfl 1 rfl
      (ix2 ⟨i.val - 1, by omega⟩ j) ?_ ?_
    · intro k hk
      match k with
      | ⟨0, _⟩ => exact absurd rfl hk
      | ⟨1, _⟩ => rfl
    · show 1 + (i.val - 1) = i.val
      omega
  · rename_i hj
    by_cases h0 : i.val = 0
    · refine (concatenate_apply_piece (t := ⟨2, ![n, b]⟩) (0 : Fin 2)
      [⟨⟨2, ![1, b]⟩, broadcast _ e⟩, ⟨⟨2, ![a, b]⟩, x⟩, ⟨⟨2, ![1, b]⟩, broadcast _ e⟩] h (ix2 i j) 0 (by simp) ⟨2, ![1, b]⟩ (broadcast _ e) rfl rfl 0 rfl
        (ix2 ⟨0, by omega⟩ j) ?_ ?_).trans rfl
      · intro k hk
        match k with
        | ⟨0, _⟩ => exact absurd rfl hk
        | ⟨1, _⟩ => rfl
      · show 0 + 0 = i.val
        omega
    · refine (concatenate_apply_piece (t := ⟨2, ![n, b]⟩) (0 : Fin 2)
      [⟨⟨2, ![1, b]⟩, broadcast _ e⟩, ⟨⟨2, ![a, b]⟩, x⟩, ⟨⟨2, ![1, b]⟩, broadcast _ e⟩] h (ix2 i j) 2 (by simp) ⟨2, ![1, b]⟩ (broadcast _ e) rfl rfl (1 + a) rfl
        (ix2 ⟨0, by omega⟩ j) ?_ ?_).trans rfl
      · intro k hk
        match k with
        | ⟨0, _⟩ => exact absurd rfl hk
        | ⟨1, _⟩ => rfl
      · show 1 + a + 0 = i.val
        omega

/-- A rank-three array between two constant slabs on its middle axis. -/
theorem between_mid {a b c n : ℕ} (e : α) (x : (⟨3, ![a, b, c]⟩ : Shape).Idx → α)
    (h : Shape.Concatenates [⟨3, ![a, 1, c]⟩, ⟨3, ![a, b, c]⟩, ⟨3, ![a, 1, c]⟩] ⟨3, ![a, n, c]⟩ 1)
    (i : Fin a) (j : Fin n) (k : Fin c) :
    concatenate ⟨3, ![a, n, c]⟩ 1 [⟨⟨3, ![a, 1, c]⟩, broadcast _ e⟩, ⟨⟨3, ![a, b, c]⟩, x⟩, ⟨⟨3, ![a, 1, c]⟩, broadcast _ e⟩]
        h (ix3 i j k) =
      if hj : 1 ≤ j.val ∧ j.val ≤ b then x (ix3 i ⟨j.val - 1, by omega⟩ k) else e := by
  have hn : 1 + (b + (1 + 0)) = n := h.2.2
  have hjn := j.isLt
  split
  · rename_i hj
    refine concatenate_apply_piece (t := ⟨3, ![a, n, c]⟩) (1 : Fin 3)
      [⟨⟨3, ![a, 1, c]⟩, broadcast _ e⟩, ⟨⟨3, ![a, b, c]⟩, x⟩, ⟨⟨3, ![a, 1, c]⟩, broadcast _ e⟩] h (ix3 i j k) 1 (by simp) ⟨3, ![a, b, c]⟩ x rfl rfl 1 rfl
      (ix3 i ⟨j.val - 1, by omega⟩ k) ?_ ?_
    · intro l hl
      match l with
      | ⟨0, _⟩ => rfl
      | ⟨1, _⟩ => exact absurd rfl hl
      | ⟨2, _⟩ => rfl
    · show 1 + (j.val - 1) = j.val
      omega
  · rename_i hj
    by_cases h0 : j.val = 0
    · refine (concatenate_apply_piece (t := ⟨3, ![a, n, c]⟩) (1 : Fin 3)
      [⟨⟨3, ![a, 1, c]⟩, broadcast _ e⟩, ⟨⟨3, ![a, b, c]⟩, x⟩, ⟨⟨3, ![a, 1, c]⟩, broadcast _ e⟩] h (ix3 i j k) 0 (by simp) ⟨3, ![a, 1, c]⟩ (broadcast _ e) rfl rfl 0 rfl
        (ix3 i ⟨0, by omega⟩ k) ?_ ?_).trans rfl
      · intro l hl
        match l with
        | ⟨0, _⟩ => rfl
        | ⟨1, _⟩ => exact absurd rfl hl
        | ⟨2, _⟩ => rfl
      · show 0 + 0 = j.val
        omega
    · refine (concatenate_apply_piece (t := ⟨3, ![a, n, c]⟩) (1 : Fin 3)
      [⟨⟨3, ![a, 1, c]⟩, broadcast _ e⟩, ⟨⟨3, ![a, b, c]⟩, x⟩, ⟨⟨3, ![a, 1, c]⟩, broadcast _ e⟩] h (ix3 i j k) 2 (by simp) ⟨3, ![a, 1, c]⟩ (broadcast _ e) rfl rfl (1 + b) rfl
        (ix3 i ⟨0, by omega⟩ k) ?_ ?_).trans rfl
      · intro l hl
        match l with
        | ⟨0, _⟩ => rfl
        | ⟨1, _⟩ => exact absurd rfl hl
        | ⟨2, _⟩ => rfl
      · show 1 + b + 0 = j.val
        omega

/-- A rank-three array between two constant slabs on its first axis. -/
theorem between_first {a b c n : ℕ} (e : α) (x : (⟨3, ![a, b, c]⟩ : Shape).Idx → α)
    (h : Shape.Concatenates [⟨3, ![1, b, c]⟩, ⟨3, ![a, b, c]⟩, ⟨3, ![1, b, c]⟩] ⟨3, ![n, b, c]⟩ 0)
    (i : Fin n) (j : Fin b) (k : Fin c) :
    concatenate ⟨3, ![n, b, c]⟩ 0 [⟨⟨3, ![1, b, c]⟩, broadcast _ e⟩, ⟨⟨3, ![a, b, c]⟩, x⟩, ⟨⟨3, ![1, b, c]⟩, broadcast _ e⟩]
        h (ix3 i j k) =
      if hi : 1 ≤ i.val ∧ i.val ≤ a then x (ix3 ⟨i.val - 1, by omega⟩ j k) else e := by
  have hn : 1 + (a + (1 + 0)) = n := h.2.2
  have hin := i.isLt
  split
  · rename_i hj
    refine concatenate_apply_piece (t := ⟨3, ![n, b, c]⟩) (0 : Fin 3)
      [⟨⟨3, ![1, b, c]⟩, broadcast _ e⟩, ⟨⟨3, ![a, b, c]⟩, x⟩, ⟨⟨3, ![1, b, c]⟩, broadcast _ e⟩] h (ix3 i j k) 1 (by simp) ⟨3, ![a, b, c]⟩ x rfl rfl 1 rfl
      (ix3 ⟨i.val - 1, by omega⟩ j k) ?_ ?_
    · intro l hl
      match l with
      | ⟨0, _⟩ => exact absurd rfl hl
      | ⟨1, _⟩ => rfl
      | ⟨2, _⟩ => rfl
    · show 1 + (i.val - 1) = i.val
      omega
  · rename_i hj
    by_cases h0 : i.val = 0
    · refine (concatenate_apply_piece (t := ⟨3, ![n, b, c]⟩) (0 : Fin 3)
      [⟨⟨3, ![1, b, c]⟩, broadcast _ e⟩, ⟨⟨3, ![a, b, c]⟩, x⟩, ⟨⟨3, ![1, b, c]⟩, broadcast _ e⟩] h (ix3 i j k) 0 (by simp) ⟨3, ![1, b, c]⟩ (broadcast _ e) rfl rfl 0 rfl
        (ix3 ⟨0, by omega⟩ j k) ?_ ?_).trans rfl
      · intro l hl
        match l with
        | ⟨0, _⟩ => exact absurd rfl hl
        | ⟨1, _⟩ => rfl
        | ⟨2, _⟩ => rfl
      · show 0 + 0 = i.val
        omega
    · refine (concatenate_apply_piece (t := ⟨3, ![n, b, c]⟩) (0 : Fin 3)
      [⟨⟨3, ![1, b, c]⟩, broadcast _ e⟩, ⟨⟨3, ![a, b, c]⟩, x⟩, ⟨⟨3, ![1, b, c]⟩, broadcast _ e⟩] h (ix3 i j k) 2 (by simp) ⟨3, ![1, b, c]⟩ (broadcast _ e) rfl rfl (1 + a) rfl
        (ix3 ⟨0, by omega⟩ j k) ?_ ?_).trans rfl
      · intro l hl
        match l with
        | ⟨0, _⟩ => exact absurd rfl hl
        | ⟨1, _⟩ => rfl
        | ⟨2, _⟩ => rfl
      · show 1 + a + 0 = i.val
        omega

/-- A window of a matrix, read at an index. -/
theorem window2 {a b m n : ℕ} (o p : ℕ) (x : (⟨2, ![a, b]⟩ : Shape).Idx → α)
    (h : (⟨2, ![a, b]⟩ : Shape).Slices ![o, p] ⟨2, ![m, n]⟩) (i : Fin m) (j : Fin n) (hi : o + i.val < a) (hj : p + j.val < b) :
    extractStridedSlice ⟨2, ![m, n]⟩ ![o, p] x h (ix2 i j) = x (ix2 ⟨o + i.val, hi⟩ ⟨p + j.val, hj⟩) :=
  extractStridedSlice_apply _ x h _ _ fun k => match k with
    | ⟨0, _⟩ => rfl
    | ⟨1, _⟩ => rfl

/-- A window of a rank-three array, read at an index. -/
theorem window3 {a b c m n l : ℕ} (o p q : ℕ) (x : (⟨3, ![a, b, c]⟩ : Shape).Idx → α)
    (h : (⟨3, ![a, b, c]⟩ : Shape).Slices ![o, p, q] ⟨3, ![m, n, l]⟩) (i : Fin m) (j : Fin n) (k : Fin l)
    (hi : o + i.val < a) (hj : p + j.val < b) (hk : q + k.val < c) :
    extractStridedSlice ⟨3, ![m, n, l]⟩ ![o, p, q] x h (ix3 i j k) =
      x (ix3 ⟨o + i.val, hi⟩ ⟨p + j.val, hj⟩ ⟨q + k.val, hk⟩) :=
  extractStridedSlice_apply _ x h _ _ fun d => match d with
    | ⟨0, _⟩ => rfl
    | ⟨1, _⟩ => rfl
    | ⟨2, _⟩ => rfl

/-- A plain matrix product onto zeros, at an index. -/
theorem product_apply {M K N : ℕ} {φ₁ φ₂ : FTy} (d : DotDims ⟨2, ![M, K]⟩ ⟨2, ![K, N]⟩ ⟨2, ![M, N]⟩)
    (hd : d = DotDims.plain M K N) (lhs : FVec Ideal ⟨2, ![M, K]⟩ φ₁) (rhs : FVec Ideal ⟨2, ![K, N]⟩ φ₂)
    (r : Fin M) (c : Fin N) :
    matmul d none lhs rhs (constant ⟨2, ![M, N]⟩ .f32 0x00000000#32) (ix2 r c) =
      ∑ k : Fin K, lhs (ix2 r k) * rhs (ix2 k c) := by
  subst hd
  refine (Ideal.matmul_plain_apply none lhs rhs _ r c).trans ?_
  rw [constant_apply, Ideal.ofBits_zero_f32, zero_add]

/-- The sum over `k` of the entries marked by `k = a`. -/
theorem sum_mark {n : ℕ} (f : Fin n → EReal) (a : Fin n) :
    ∑ k : Fin n, (if k = a then (1 : EReal) else 0) * f k = f a := by
  rw [Finset.sum_eq_single a]
  · rw [if_pos rfl, one_mul]
  · intro k _ hk
    rw [if_neg hk, zero_mul]
  · intro h
    exact absurd (Finset.mem_univ a) h

/-- A bit as a float: one where it is set, zero where not. -/
theorem bit_float (c : BitVec 1) : (FloatOps.sitofp (F := Ideal) .f32 (c.setWidth 32) : EReal) = if c = 1#1 then 1 else 0 := by
  show (((c.setWidth 32).toInt : ℝ) : EReal) = _
  have hc : c = 1#1 ∨ c = 0#1 := by revert c; decide
  rcases hc with rfl | rfl
  · simp
  · simp

end Cert.Hen

end
-- ==== Proof.KPool.lean ====
/- The kernel's pooling of the histogram, read at an index: the largest and the smallest cell of each window of the
   padded board, and the even rows and columns picked by one-hot products. -/
module

public import proofs.«01_k».proof.Proof.Gen.KernelIdeal.Skeleton
public import proofs.«01_k».proof.Proof.Pool
public import proofs.«01_k».proof.Proof.Lay

@[expose] public section

noncomputable section

namespace Cert.Hen

open Idealize.ShloMosaic Idealize.ShloMosaic.ValueIdx Cert.KernelIdeal Cert.KernelIdeal.Gen

/-- A matrix on plain indices. -/
abbrev mat {m n : ℕ} (x : (⟨2, ![m, n]⟩ : Shape).Idx → EReal) (p : Fin m) (q : Fin n) : EReal := x (ix2 p q)

/-- The histogram padded once by columns and twice by rows is the board, one column in. -/
theorem padded_rows (e : EReal) (x : FVec Ideal S64x64 .f32) (r : Fin 68) (c : Fin 66)
    (h1 : Shape.Concatenates [S64x1, S64x64, S64x1] S64x66 1) (h2 : Shape.Concatenates [S1x66, S64x66, S1x66] S66x66 0)
    (h3 : Shape.Concatenates [S1x66, S66x66, S1x66] S68x66 0) :
    concatenate S68x66 0 [⟨S1x66, broadcast S1x66 e⟩,
        ⟨S66x66, concatenate S66x66 0 [⟨S1x66, broadcast S1x66 e⟩,
          ⟨S64x66, concatenate S64x66 1 [⟨S64x1, broadcast S64x1 e⟩, ⟨S64x64, x⟩, ⟨S64x1, broadcast S64x1 e⟩] h1⟩,
          ⟨S1x66, broadcast S1x66 e⟩] h2⟩,
        ⟨S1x66, broadcast S1x66 e⟩] h3 (ix2 r c) = onBoard (mat x) e r.val (c.val + 1) := by
  have hr := r.isLt
  have hc := c.isLt
  rw [between_rows]
  unfold onBoard
  by_cases hi : inner r.val (c.val + 1)
  · have hi' := hi
    unfold inner at hi'
    rw [dif_pos hi, dif_pos (by omega), between_rows, dif_pos (by show 1 ≤ r.val - 1 ∧ r.val - 1 ≤ 64; omega),
      between_cols, dif_pos (by omega)]
    refine congrArg x ?_
    congr 1
  · have hi' := hi
    unfold inner at hi'
    rw [dif_neg hi]
    split
    · rw [between_rows]
      split
      · rename_i h
        have h' : 1 ≤ r.val - 1 ∧ r.val - 1 ≤ 64 := h
        rw [between_cols, dif_neg (by omega)]
      · rfl
    · rfl

/-- The largest of three cells down, then of three such across. -/
def maxRC (f : ℕ → ℕ → EReal) (r c : ℕ) : EReal :=
  max (max (max (max (f r c) (f (r + 1) c)) (f (r + 2) c)) (max (max (f r (c + 1)) (f (r + 1) (c + 1))) (f (r + 2) (c + 1))))
    (max (max (f r (c + 2)) (f (r + 1) (c + 2))) (f (r + 2) (c + 2)))

/-- The smallest of three cells down, then of three such across. -/
def minRC (f : ℕ → ℕ → EReal) (r c : ℕ) : EReal :=
  min (min (min (min (f r c) (f (r + 1) c)) (f (r + 2) c)) (min (min (f r (c + 1)) (f (r + 1) (c + 1))) (f (r + 2) (c + 1))))
    (min (min (f r (c + 2)) (f (r + 1) (c + 2))) (f (r + 2) (c + 2)))

theorem maxRC_eq (f : ℕ → ℕ → EReal) (r c : ℕ) : maxRC f r c = max9 f r c := by
  unfold maxRC max9
  ac_rfl

theorem minRC_eq (f : ℕ → ℕ → EReal) (r c : ℕ) : minRC f r c = min9 f r c := by
  unfold minRC min9
  ac_rfl

/-- A cell in the board's first or last column is the mask. -/
theorem onBoard_edge (h : Fin 64 → Fin 64 → EReal) (e : EReal) (r c : ℕ) (hc : ¬(1 ≤ c ∧ c ≤ 66)) : onBoard h e r c = e := by
  unfold onBoard
  rw [dif_neg (by unfold inner; omega)]

/-- The histogram with the mask around it, one column wide and two rows deep. -/
def mxRows (x : FVec Ideal S64x64 .f32) : FVec Ideal S68x66 .f32 :=
  concatenate S68x66 0 [⟨S1x66, broadcast S1x66 wNeg⟩,
        ⟨S66x66, concatenate S66x66 0 [⟨S1x66, broadcast S1x66 wNeg⟩,
          ⟨S64x66, concatenate S64x66 1 [⟨S64x1, broadcast S64x1 wNeg⟩, ⟨S64x64, x⟩, ⟨S64x1, broadcast S64x1 wNeg⟩]
            concatenates_S64x1_S64x64_S64x1_S64x66_d1⟩,
          ⟨S1x66, broadcast S1x66 wNeg⟩] concatenates_S1x66_S64x66_S1x66_S66x66_d0⟩,
        ⟨S1x66, broadcast S1x66 wNeg⟩] concatenates_S1x66_S66x66_S1x66_S68x66_d0

/-- The largest of three cells down. -/
def mxDown (y : FVec Ideal S68x66 .f32) : FVec Ideal S66x66 .f32 :=
  maximumf (maximumf (extractStridedSlice S66x66 ![0, 0] y slices_S68x66_o0_0_S66x66)
    (extractStridedSlice S66x66 ![1, 0] y slices_S68x66_o1_0_S66x66))
    (extractStridedSlice S66x66 ![2, 0] y slices_S68x66_o2_0_S66x66)

/-- A column of the mask on each side. -/
def mxCols (y : FVec Ideal S66x66 .f32) : FVec Ideal S66x68 .f32 :=
  concatenate S66x68 1 [⟨S66x1, broadcast S66x1 wNeg⟩, ⟨S66x66, y⟩, ⟨S66x1, broadcast S66x1 wNeg⟩]
    concatenates_S66x1_S66x66_S66x1_S66x68_d1

/-- The largest of three cells across. -/
def mxAcross (y : FVec Ideal S66x68 .f32) : FVec Ideal S66x66 .f32 :=
  maximumf (maximumf (extractStridedSlice S66x66 ![0, 0] y slices_S66x68_o0_0_S66x66)
    (extractStridedSlice S66x66 ![0, 1] y slices_S66x68_o0_1_S66x66))
    (extractStridedSlice S66x66 ![0, 2] y slices_S66x68_o0_2_S66x66)

theorem mxDown_apply (x : FVec Ideal S64x64 .f32) (r c : Fin 66) :
    mxDown (mxRows x) (ix2 r c) = max (max (onBoard (mat x) wNeg r.val (c.val + 1)) (onBoard (mat x) wNeg (r.val + 1) (c.val + 1)))
      (onBoard (mat x) wNeg (r.val + 2) (c.val + 1)) := by
  have hr := r.isLt
  have hc := c.isLt
  unfold mxDown
  rw [maximumf_apply, maximumf_apply, window2 0 0 _ _ r c (by omega) (by omega), window2 1 0 _ _ r c (by omega) (by omega),
    window2 2 0 _ _ r c (by omega) (by omega)]
  unfold mxRows
  rw [padded_rows, padded_rows, padded_rows]
  simp only [Nat.zero_add, Nat.add_comm 1, Nat.add_comm 2]

theorem mxCols_apply (x : FVec Ideal S64x64 .f32) (r : Fin 66) (c : Fin 68) :
    mxCols (mxDown (mxRows x)) (ix2 r c) = max (max (onBoard (mat x) wNeg r.val c.val) (onBoard (mat x) wNeg (r.val + 1) c.val))
      (onBoard (mat x) wNeg (r.val + 2) c.val) := by
  unfold mxCols
  rw [between_cols]
  split
  · rename_i h
    rw [mxDown_apply]
    rw [show c.val - 1 + 1 = c.val by omega]
  · rename_i h
    rw [onBoard_edge _ _ _ _ h, onBoard_edge _ _ _ _ h, onBoard_edge _ _ _ _ h, max_self, max_self]

/-- The padded histogram's running largest: at (r, c) the largest cell of the window there. -/
theorem pay25_apply (x : FVec Ideal S64x64 .f32) (r c : Fin 66) :
    k0_pay25 (F := Ideal) x (ix2 r c) = max9 (onBoard (mat x) wNeg) r.val c.val := by
  have hr := r.isLt
  have hc := c.isLt
  rw [← maxRC_eq]
  show mxAcross (mxCols (mxDown (mxRows x))) (ix2 r c) = _
  unfold mxAcross
  rw [maximumf_apply, maximumf_apply, window2 0 0 _ _ r c (by omega) (by omega), window2 0 1 _ _ r c (by omega) (by omega),
    window2 0 2 _ _ r c (by omega) (by omega), mxCols_apply, mxCols_apply, mxCols_apply]
  simp only [Nat.zero_add, Nat.add_comm 1, Nat.add_comm 2]
  rfl

/-- The histogram with the mask around it, one column wide and two rows deep. -/
def mnRows (x : FVec Ideal S64x64 .f32) : FVec Ideal S68x66 .f32 :=
  concatenate S68x66 0 [⟨S1x66, broadcast S1x66 wPos⟩,
        ⟨S66x66, concatenate S66x66 0 [⟨S1x66, broadcast S1x66 wPos⟩,
          ⟨S64x66, concatenate S64x66 1 [⟨S64x1, broadcast S64x1 wPos⟩, ⟨S64x64, x⟩, ⟨S64x1, broadcast S64x1 wPos⟩]
            concatenates_S64x1_S64x64_S64x1_S64x66_d1⟩,
          ⟨S1x66, broadcast S1x66 wPos⟩] concatenates_S1x66_S64x66_S1x66_S66x66_d0⟩,
        ⟨S1x66, broadcast S1x66 wPos⟩] concatenates_S1x66_S66x66_S1x66_S68x66_d0

/-- The smallest of three cells down. -/
def mnDown (y : FVec Ideal S68x66 .f32) : FVec Ideal S66x66 .f32 :=
  minimumf (minimumf (extractStridedSlice S66x66 ![0, 0] y slices_S68x66_o0_0_S66x66)
    (extractStridedSlice S66x66 ![1, 0] y slices_S68x66_o1_0_S66x66))
    (extractStridedSlice S66x66 ![2, 0] y slices_S68x66_o2_0_S66x66)

/-- A column of the mask on each side. -/
def mnCols (y : FVec Ideal S66x66 .f32) : FVec Ideal S66x68 .f32 :=
  concatenate S66x68 1 [⟨S66x1, broadcast S66x1 wPos⟩, ⟨S66x66, y⟩, ⟨S66x1, broadcast S66x1 wPos⟩]
    concatenates_S66x1_S66x66_S66x1_S66x68_d1

/-- The smallest of three cells across. -/
def mnAcross (y : FVec Ideal S66x68 .f32) : FVec Ideal S66x66 .f32 :=
  minimumf (minimumf (extractStridedSlice S66x66 ![0, 0] y slices_S66x68_o0_0_S66x66)
    (extractStridedSlice S66x66 ![0, 1] y slices_S66x68_o0_1_S66x66))
    (extractStridedSlice S66x66 ![0, 2] y slices_S66x68_o0_2_S66x66)

theorem mnDown_apply (x : FVec Ideal S64x64 .f32) (r c : Fin 66) :
    mnDown (mnRows x) (ix2 r c) = min (min (onBoard (mat x) wPos r.val (c.val + 1)) (onBoard (mat x) wPos (r.val + 1) (c.val + 1)))
      (onBoard (mat x) wPos (r.val + 2) (c.val + 1)) := by
  have hr := r.isLt
  have hc := c.isLt
  unfold mnDown
  rw [minimumf_apply, minimumf_apply, window2 0 0 _ _ r c (by omega) (by omega), window2 1 0 _ _ r c (by omega) (by omega),
    window2 2 0 _ _ r c (by omega) (by omega)]
  unfold mnRows
  rw [padded_rows, padded_rows, padded_rows]
  simp only [Nat.zero_add, Nat.add_comm 1, Nat.add_comm 2]

theorem mnCols_apply (x : FVec Ideal S64x64 .f32) (r : Fin 66) (c : Fin 68) :
    mnCols (mnDown (mnRows x)) (ix2 r c) = min (min (onBoard (mat x) wPos r.val c.val) (onBoard (mat x) wPos (r.val + 1) c.val))
      (onBoard (mat x) wPos (r.val + 2) c.val) := by
  unfold mnCols
  rw [between_cols]
  split
  · rename_i h
    rw [mnDown_apply]
    rw [show c.val - 1 + 1 = c.val by omega]
  · rename_i h
    rw [onBoard_edge _ _ _ _ h, onBoard_edge _ _ _ _ h, onBoard_edge _ _ _ _ h, min_self, min_self]

/-- The padded histogram's running smallest: at (r, c) the smallest cell of the window there. -/
theorem pay26_apply (x : FVec Ideal S64x64 .f32) (r c : Fin 66) :
    k0_pay26 (F := Ideal) x (ix2 r c) = min9 (onBoard (mat x) wPos) r.val c.val := by
  have hr := r.isLt
  have hc := c.isLt
  rw [← minRC_eq]
  show mnAcross (mnCols (mnDown (mnRows x))) (ix2 r c) = _
  unfold mnAcross
  rw [minimumf_apply, minimumf_apply, window2 0 0 _ _ r c (by omega) (by omega), window2 0 1 _ _ r c (by omega) (by omega),
    window2 0 2 _ _ r c (by omega) (by omega), mnCols_apply, mnCols_apply, mnCols_apply]
  simp only [Nat.zero_add, Nat.add_comm 1, Nat.add_comm 2]
  rfl

/-- A column number is twice a row number, in machine words and in plain numbers. -/
theorem even_mark (i : Fin 33) (r : Fin 66) :
    IntOp.cmpi .eq (BitVec.ofNat 32 r.val) (2#32 * BitVec.ofNat 32 i.val) = 1#1 ↔ r = ⟨2 * i.val, by omega⟩ := by
  revert i r
  decide +kernel

/-- The mark of the even cells: one where the column is twice the row. -/
theorem pay27_apply (i : Fin 33) (r : Fin 66) :
    k0_pay27 (F := Ideal) (ix2 i r) = if r = ⟨2 * i.val, by omega⟩ then (1 : EReal) else 0 := by
  have h : k0_pay27 (F := Ideal) (ix2 i r) = FloatOps.sitofp (F := Ideal) .f32 ((IntOp.cmpi .eq
      (iota .tc S33x66 32 [1] iota_S33x66_d1_w32 (ix2 i r)) (2#32 * iota .tc S33x66 32 [0] iota_S33x66_d0_w32 (ix2 i r))).setWidth 32) := rfl
  rw [h, iota_single_apply, iota_single_apply, bit_float]
  show (if IntOp.cmpi .eq (BitVec.ofNat 32 r.val) (2#32 * BitVec.ofNat 32 i.val) = 1#1 then (1 : EReal) else 0) = _
  simp only [even_mark]

theorem pay29_apply (r : Fin 66) (j : Fin 33) :
    k0_pay29 (F := Ideal) k0_pay28 (ix2 r j) = if r = ⟨2 * j.val, by omega⟩ then (1 : EReal) else 0 := by
  have h : k0_pay29 (F := Ideal) k0_pay28 (ix2 r j) = FloatOps.sitofp (F := Ideal) .f32 ((IntOp.cmpi .eq
      (iota .tc S66x33 32 [0] iota_S66x33_d0_w32 (ix2 r j)) (2#32 * iota .tc S66x33 32 [1] iota_S66x33_d1_w32 (ix2 r j))).setWidth 32) := rfl
  rw [h, iota_single_apply, iota_single_apply, bit_float]
  show (if IntOp.cmpi .eq (BitVec.ofNat 32 r.val) (2#32 * BitVec.ofNat 32 j.val) = 1#1 then (1 : EReal) else 0) = _
  simp only [even_mark]

/-- Both products pick the even rows and columns. -/
theorem pay30_apply (y : FVec Ideal S66x66 .f32) (i j : Fin 33) :
    k0_pay30 (F := Ideal) y k0_pay27 k0_pay28 (ix2 i j) = y (ix2 ⟨2 * i.val, by omega⟩ ⟨2 * j.val, by omega⟩) := by
  unfold k0_pay30
  rw [product_apply dot_S33x66_S66x33_S33x33_1_0_0_1_n_n rfl]
  simp only [product_apply dot_S33x66_S66x66_S33x66_1_0_0_1_n_n rfl, pay27_apply, pay29_apply]
  simp only [sum_mark (fun k : Fin 66 => y (ix2 k _))]
  simp only [mul_comm _ (ite _ _ _)]
  exact sum_mark (fun k : Fin 66 => y (ix2 _ k)) _

/-- The same two products of the smallest cells. -/
theorem pay31_eq (y : FVec Ideal S66x66 .f32) : k0_pay31 (F := Ideal) y k0_pay27 k0_pay28 = k0_pay30 y k0_pay27 k0_pay28 := rfl

end Cert.Hen

end
-- ==== Proof.Consts.lean ====
/- The values of the constants both programs spell as words, and sums over a product of two ranges. -/
module

public import proofs.«01_k».proof.Proof.Spec
public import Idealize.ShloMosaic.Lib.ValueIdx

@[expose] public section

noncomputable section

namespace Cert.Hen

open Idealize.ShloMosaic

theorem w0_eq : w0 = 0 := Ideal.ofBits_zero_f32

theorem zero_bf16 : Ideal.ofBits .bf16 0x0000#16 = 0 := by
  simp [Ideal.ofBits, Ideal.ieee, -EReal.coe_mul]

theorem wNeg_neg : wNeg < 0 := by
  have h : wNeg = ((-1000000015047466219876688855040 : ℝ) : EReal) := by
    simp [wNeg, Ideal.ofBits, Ideal.ieee, -EReal.coe_mul]
    norm_num
  rw [h]
  exact EReal.coe_neg'.2 (by norm_num)

theorem wPos_big : 1 < wPos := by
  have h : wPos = ((1000000015047466219876688855040 : ℝ) : EReal) := by
    simp [wPos, Ideal.ofBits, Ideal.ieee, -EReal.coe_mul]
    norm_num
  rw [h]
  exact EReal.coe_lt_coe_iff.2 (by norm_num : (1 : ℝ) < _)

theorem ninf_word : Ideal.ofBits .f32 0xFF800000#32 = ⊥ := by
  simp [Ideal.ofBits, Ideal.ieee, -EReal.coe_mul]

theorem pinf_word : Ideal.ofBits .f32 0x7F800000#32 = ⊤ := by
  simp [Ideal.ofBits, Ideal.ieee, -EReal.coe_mul]

theorem area_word : Ideal.ofBits .f32 0x44882000#32 = ((1089 : ℝ) : EReal) := by
  simp [Ideal.ofBits, Ideal.ieee, -EReal.coe_mul]
  norm_num

/-- A sum over m * n consecutive places, by blocks of n. -/
theorem sum_split {M : Type*} [AddCommMonoid M] {m n N : ℕ} (hN : N = m * n) (f : Fin N → M) :
    ∑ k : Fin N, f k = ∑ i : Fin m, ∑ j : Fin n, f ⟨i.val * n + j.val, by
      have hi := i.isLt
      have hj := j.isLt
      calc i.val * n + j.val < i.val * n + n := by omega
        _ = (i.val + 1) * n := by ring
        _ ≤ m * n := Nat.mul_le_mul_right n hi
        _ = N := hN.symm⟩ := by
  subst hN
  rw [← Fintype.sum_prod_type', ← finProdFinEquiv.sum_comp]
  refine Finset.sum_congr rfl fun p _ => congrArg f (Fin.ext ?_)
  show p.2.val + n * p.1.val = p.1.val * n + p.2.val
  ring

/-- A sum over rank-three indices, coordinate by coordinate. -/
theorem sum_ix3 {M : Type*} [AddCommMonoid M] {a b c : ℕ} (f : (⟨3, ![a, b, c]⟩ : Shape).Idx → M) :
    ∑ i, f i = ∑ p : Fin a, ∑ q : Fin b, ∑ r : Fin c, f (ValueIdx.ix3 p q r) := by
  let e : (Fin a × Fin b × Fin c) ≃ (⟨3, ![a, b, c]⟩ : Shape).Idx :=
    { toFun := fun x => ValueIdx.ix3 x.1 x.2.1 x.2.2
      invFun := fun i => (i 0, i 1, i 2)
      left_inv := fun _ => rfl
      right_inv := fun i => (ValueIdx.eq_ix3 i).symm }
  rw [← e.sum_comp f, Fintype.sum_prod_type]
  refine Finset.sum_congr rfl fun p _ => ?_
  rw [Fintype.sum_prod_type]
  rfl

end Cert.Hen

end
-- ==== Proof.KHist.lean ====
/- One block of 64 image rows in the kernel: what it adds to the two histograms. -/
module

public import proofs.«01_k».proof.Proof.KPool
public import proofs.«01_k».proof.Proof.Consts

@[expose] public section

noncomputable section

namespace Cert.Hen

open Idealize.ShloMosaic Idealize.ShloMosaic.ValueIdx Cert.KernelIdeal Cert.KernelIdeal.Gen

/-- One channel of a block of rows, as the kernel reads it: row r, column x. -/
abbrev chan (v : FVec Ideal S1x1x64x512 .f32) (r : Fin 64) (x : Fin 512) : EReal := v (ix4 (0 : Fin 1) (0 : Fin 1) r x)

theorem pay2_apply (v : FVec Ideal S1x1x64x512 .f32) (r : Fin 64) (x : Fin 512) :
    k0_pay2 (F := Ideal) v (ix2 r x) = chan v r x := by
  unfold k0_pay2
  refine shapeCast_apply _ _ _ (ix4 (0 : Fin 1) (0 : Fin 1) r x) ?_
  rw [Shape.rowMajor_val_four, Shape.rowMajor_val_two]
  show ((0 * 1 + 0) * 64 + r.val) * 512 + x.val = r.val * 512 + x.val
  omega

theorem pay5_apply (v : FVec Ideal S1x1x64x512 .f32) (r : Fin 64) (x : Fin 512) :
    k0_pay5 (F := Ideal) v (ix2 r x) = unit (chan v r x) := by
  rw [← pay2_apply]
  rfl

theorem pay6_apply (v : FVec Ideal S1x1x64x512 .f32) (r : Fin 64) (x : Fin 512) :
    k0_pay6 (F := Ideal) v (ix2 r x) = unit (chan v r x) := by
  rw [← pay2_apply]
  rfl

theorem pay7_apply (v : FVec Ideal S1x1x64x512 .f32) (r : Fin 64) (x : Fin 512) :
    k0_pay7 (F := Ideal) v (ix2 r x) = unit (chan v r x) := by
  rw [← pay2_apply]
  rfl

/-- The weight of a pixel in the a/b histogram. -/
theorem pay10_apply (a b : FVec Ideal S1x1x64x512 .f32) (r : Fin 64) (x : Fin 512) :
    k0_pay10 (k0_pay6 (F := Ideal) b) (k0_pay8 (F := Ideal) a b) (k0_pay9 (F := Ideal)) (ix2 r x) = ind (okAB (chan a r x) (chan b r x)) := by
  rw [← pay2_apply a, ← pay2_apply b]
  exact bit_float (okAB (k0_pay2 (F := Ideal) a (ix2 r x)) (k0_pay2 (F := Ideal) b (ix2 r x)))

/-- The weight of a pixel in the lightness histogram. -/
theorem pay11_apply (l : FVec Ideal S1x1x64x512 .f32) (r : Fin 64) (x : Fin 512) :
    k0_pay11 (F := Ideal) (k0_pay2 (F := Ideal) l) (k0_pay7 (F := Ideal) l) (ix2 r x) = ind (okL (chan l r x)) := by
  rw [← pay2_apply l]
  exact bit_float (okL (k0_pay2 (F := Ideal) l (ix2 r x)))

theorem pay12_apply (b : FVec Ideal S1x1x64x512 .f32) (r : Fin 64) (x : Fin 512) :
    k0_pay12 (F := Ideal) (k0_pay6 (F := Ideal) b) (ix2 r x) = binAB (chan b r x) := by
  rw [← pay2_apply b]
  rfl

theorem pay13_apply (l : FVec Ideal S1x1x64x512 .f32) (r : Fin 64) (x : Fin 512) :
    k0_pay13 (F := Ideal) (k0_pay7 (F := Ideal) l) (ix2 r x) = binL (chan l r x) := by
  rw [← pay2_apply l]
  rfl

/-- A matrix spread over a third axis. -/
theorem spread_apply {α : Type} {n : ℕ} (v : S64x512.Idx → α) (h : S64x512.ShapeCasts S64x512x1)
    (hb : S64x512x1.Broadcasts ⟨3, ![64, 512, n]⟩) (r : Fin 64) (x : Fin 512) (k : Fin n) :
    broadcastTo ⟨3, ![64, 512, n]⟩ (shapeCast S64x512x1 v h) hb (ix3 r x k) = v (ix2 r x) := by
  refine (broadcastTo_apply _ _ (ix3 r x k) (ix3 r x (0 : Fin 1)) (fun d => match d with
      | ⟨0, _⟩ => rfl
      | ⟨1, _⟩ => rfl
      | ⟨2, _⟩ => rfl)).trans ?_
  refine shapeCast_apply _ _ _ (ix2 r x) ?_
  rw [Shape.rowMajor_val_three, Shape.rowMajor_val_two]
  show r.val * 512 + x.val = (r.val * 512 + x.val) * 1 + 0
  omega

theorem pay14_apply (a : FVec Ideal S1x1x64x512 .f32) (r : Fin 64) (x : Fin 512) (k : Fin 64) :
    k0_pay14 (F := Ideal) (k0_pay5 (F := Ideal) a) (ix3 r x k) = binAB (chan a r x) := by
  refine (spread_apply _ shapeCasts_S64x512_S64x512x1 broadcasts_S64x512x1_S64x512x64 r x k).trans ?_
  rw [← pay2_apply a]
  rfl

/-- Two words are equal when the comparison says so. -/
theorem cmpi_eq_one (a b : BitVec 32) : IntOp.cmpi .eq a b = 1#1 ↔ a = b := by
  show BitVec.ofBool (a == b) = 1#1 ↔ a = b
  by_cases h : a = b
  · subst h
    simp
  · have hb : (a == b) = false := by simpa using h
    rw [hb]
    simp [h]

/-- The product over the first axis of both operands. -/
theorem gram_apply (lhs rhs : FVec Ideal S32768x64 .bf16) (p q : Fin 64) :
    matmul dot_S32768x64_S32768x64_S64x64_0_0_1_1_n_n none lhs rhs (constant S64x64 .f32 0x00000000#32) (ix2 p q) =
      ∑ k : Fin 32768, lhs (ix2 k p) * rhs (ix2 k q) := by
  refine (Ideal.matmul_apply dot_S32768x64_S32768x64_S64x64_0_0_1_1_n_n none lhs rhs _ _).trans ?_
  rw [constant_apply, Ideal.ofBits_zero_f32, zero_add, ← Equiv.sum_comp (contrEquiv1 dot_S32768x64_S32768x64_S64x64_0_0_1_1_n_n 32768 rfl rfl).symm]
  refine Finset.sum_congr rfl fun k _ => ?_
  have hk := contrEquiv1_symm_val dot_S32768x64_S32768x64_S64x64_0_0_1_1_n_n 32768 rfl rfl k
  have el : dot_S32768x64_S32768x64_S64x64_0_0_1_1_n_n.lhsIdx (ix2 p q) ((contrEquiv1 dot_S32768x64_S32768x64_S64x64_0_0_1_1_n_n 32768 rfl rfl).symm k) = ix2 k p := by
    funext a; apply Fin.ext
    match a with
    | ⟨0, _⟩ => exact hk
    | ⟨1, _⟩ => rfl
  have er : dot_S32768x64_S32768x64_S64x64_0_0_1_1_n_n.rhsIdx (ix2 p q) ((contrEquiv1 dot_S32768x64_S32768x64_S64x64_0_0_1_1_n_n 32768 rfl rfl).symm k) = ix2 k q := by
    funext a; apply Fin.ext
    match a with
    | ⟨0, _⟩ => exact hk
    | ⟨1, _⟩ => rfl
  rw [el, er]

/-- Rows of pixels in one order. -/
theorem flat_apply {α : Type} {n : ℕ} (v : (⟨3, ![64, 512, n]⟩ : Shape).Idx → α)
    (h : (⟨3, ![64, 512, n]⟩ : Shape).ShapeCasts ⟨2, ![32768, n]⟩) (r : Fin 64) (x : Fin 512) (k : Fin n)
    (hk : r.val * 512 + x.val < 32768) :
    shapeCast ⟨2, ![32768, n]⟩ v h (ix2 ⟨r.val * 512 + x.val, hk⟩ k) = v (ix3 r x k) := by
  refine shapeCast_apply _ _ _ _ ?_
  rw [Shape.rowMajor_val_three, Shape.rowMajor_val_two]
  rfl

/-- The a/b histogram after one block of rows. -/
theorem pay17_apply (acc : FVec Ideal S64x64 .f32) (a b : FVec Ideal S1x1x64x512 .f32) (h : S64x512x64.Iotas .tc 32 [2]) (p q : Fin 64) :
    k0_pay17 (F := Ideal) acc (k0_pay10 (k0_pay6 (F := Ideal) b) (k0_pay8 (F := Ideal) a b) (k0_pay9 (F := Ideal))) (k0_pay12 (k0_pay6 (F := Ideal) b)) (iota .tc S64x512x64 32 [2] h)
        (k0_pay14 (k0_pay5 (F := Ideal) a)) (ix2 p q) =
      acc (ix2 p q) + ∑ r : Fin 64, ∑ x : Fin 512,
        if binAB (chan b r x) = BitVec.ofNat 32 p.val ∧ binAB (chan a r x) = BitVec.ofNat 32 q.val then
          ind (okAB (chan a r x) (chan b r x)) else 0 := by
  unfold k0_pay17
  rw [addf_apply, gram_apply, sum_split (m := 64) (n := 512) rfl]
  refine congrArg (fun z : EReal => acc (ix2 p q) + z) (Finset.sum_congr rfl fun r _ => Finset.sum_congr rfl fun x _ => ?_)
  rw [flat_apply, flat_apply, mulf_apply]
  have hw := spread_apply (k0_pay10 (k0_pay6 (F := Ideal) b) (k0_pay8 (F := Ideal) a b) (k0_pay9 (F := Ideal))) shapeCasts_S64x512_S64x512x1 broadcasts_S64x512x1_S64x512x64 r x p
  have hb := spread_apply (k0_pay12 (F := Ideal) (k0_pay6 (F := Ideal) b)) shapeCasts_S64x512_S64x512x1 broadcasts_S64x512x1_S64x512x64 r x p
  rw [pay10_apply] at hw
  rw [pay12_apply] at hb
  have e1 : ∀ (u w : IVec S64x512x64 32) (k : S64x512x64.Idx), (truncf .bf16 (sitofp (F := Ideal) .f32 (extui 32 (cmpi .eq u w) natLt_1_32)) bitsLt_bf16_f32 : FVec Ideal S64x512x64 .bf16) k =
      if u k = w k then (1 : EReal) else 0 := by
    intro u w k
    refine (bit_float (IntOp.cmpi .eq (u k) (w k))).trans ?_
    simp only [cmpi_eq_one]
  rw [e1, e1, pay14_apply, iota_single_apply, iota_single_apply]
  erw [hw, hb]
  show (if binAB (chan b r x) = BitVec.ofNat 32 p.val then (1 : EReal) else 0) * ind (okAB (chan a r x) (chan b r x)) *
    (if binAB (chan a r x) = BitVec.ofNat 32 q.val then (1 : EReal) else 0) = _
  by_cases h1 : binAB (chan b r x) = BitVec.ofNat 32 p.val
  · by_cases h2 : binAB (chan a r x) = BitVec.ofNat 32 q.val
    · simp [h1, h2]
    · simp [h2]
  · simp [h1]

/-- The lightness histogram after one block of rows. -/
theorem pay18_apply (acc : FVec Ideal S1x8 .f32) (l : FVec Ideal S1x1x64x512 .f32) (h : S64x512x8.Iotas .tc 32 [2]) (k : Fin 8) :
    k0_pay18 (F := Ideal) acc (k0_pay11 (k0_pay2 (F := Ideal) l) (k0_pay7 (F := Ideal) l)) (k0_pay13 (k0_pay7 (F := Ideal) l)) (iota .tc S64x512x8 32 [2] h) (ix2 0 k) =
      acc (ix2 0 k) + ∑ r : Fin 64, ∑ x : Fin 512,
        if binL (chan l r x) = BitVec.ofNat 32 k.val then ind (okL (chan l r x)) else 0 := by
  unfold k0_pay18
  rw [addf_apply]
  refine congrArg (fun z : EReal => acc (ix2 0 k) + z) ?_
  refine (shapeCast_a_1a_apply _ _ 0 k).trans ?_
  refine (Ideal.multiReduction_add_single _ _ reduces_S32768x8_S8 (.inl rfl) rfl _).trans ?_
  have hl : ∀ n : Fin 32768, Shape.Reduces.lift reduces_S32768x8_S8 (ix1 k) n = ix2 n k := by
    intro n
    funext d
    match d with
    | ⟨0, _⟩ => rfl
    | ⟨1, _⟩ => rfl
  refine (sum_split (N := 32768) (m := 64) (n := 512) rfl _).trans ?_
  refine Finset.sum_congr rfl fun r _ => Finset.sum_congr rfl fun x _ => ?_
  rw [hl, flat_apply, mulf_apply]
  have hw := spread_apply (k0_pay11 (F := Ideal) (k0_pay2 (F := Ideal) l) (k0_pay7 (F := Ideal) l)) shapeCasts_S64x512_S64x512x1 broadcasts_S64x512x1_S64x512x8 r x k
  have hb := spread_apply (k0_pay13 (F := Ideal) (k0_pay7 (F := Ideal) l)) shapeCasts_S64x512_S64x512x1 broadcasts_S64x512x1_S64x512x8 r x k
  rw [pay11_apply] at hw
  rw [pay13_apply] at hb
  have e1 : ∀ (u w : IVec S64x512x8 32) (k : S64x512x8.Idx), (sitofp (F := Ideal) .f32 (extui 32 (cmpi .eq u w) natLt_1_32) : FVec Ideal S64x512x8 .f32) k =
      if u k = w k then (1 : EReal) else 0 := by
    intro u w k
    refine (bit_float (IntOp.cmpi .eq (u k) (w k))).trans ?_
    simp only [cmpi_eq_one]
  rw [e1, iota_single_apply]
  erw [hw, hb]
  show (if binL (chan l r x) = BitVec.ofNat 32 k.val then (1 : EReal) else 0) * ind (okL (chan l r x)) = _
  split
  · rw [one_mul]
  · rw [zero_mul]

end Cert.Hen

end
-- ==== Proof.KLoop.lean ====
module

public import proofs.«01_k».proof.Proof.KHist
public import proofs.«01_k».proof.Proof.Gen.KernelIdeal.Frame

@[expose] public section

noncomputable section

open Idealize.ShloMosaic Idealize.ShloMosaic.ValueIdx Cert.KernelIdeal Cert.KernelIdeal.Gen

namespace Cert.Hen

/-- Sixty-four rows of one channel of an image, as the loop loads them. -/
def strip (x0 : Vec Ideal S1x3x512x512 .f32) (o : Fin 4 → ℕ) (h : ∀ a, o a + ![1, 1, 64, 512] a ≤ S1x3x512x512.size a) :
    FVec Ideal S1x1x64x512 .f32 :=
  View.ld x0 (Rect.unit (s := S1x3x512x512) o ![1, 1, 64, 512] h)

theorem strip_apply (x0 : Vec Ideal S1x3x512x512 .f32) (o : Fin 4 → ℕ) (h) (n : Fin 3) (k : Fin 8)
    (h0 : o 0 = 0) (h1 : o 1 = n.val) (h2 : o 2 = k.val * 64) (h3 : o 3 = 0) (r : Fin 64) (x : Fin 512) :
    strip x0 o h (ix4 0 0 r x) = x0 (ix4 0 n ⟨k.val * 64 + r.val, by omega⟩ x) := by
  unfold strip
  refine congrArg x0 (funext fun a => Fin.ext ?_)
  match a with
  | ⟨0, _⟩ => show o 0 + 1 * 0 = 0; omega
  | ⟨1, _⟩ => show o 1 + 1 * 0 = n.val; omega
  | ⟨2, _⟩ => show o 2 + 1 * r.val = k.val * 64 + r.val; omega
  | ⟨3, _⟩ => show o 3 + 1 * x.val = x.val; omega

theorem trips_eight : k0_t1_loop.trips = 8 := by decide +kernel

/-- What one trip leaves, the three strips named. -/
theorem trip_eq (c : Dev nD) (i : grid0.Coords) (a1 : Memref sig .tc .vmem S1x3x512x512 .f32) (h1 : a1.IsWhole) (a2 : Memref sig .tc .vmem S9x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1152x1024 .bf16) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1024x256 .f32) (h12 : a12.IsWhole) (a13 : Memref sig .tc .vmem S1x256 .f32) (h13 : a13.IsWhole) (a14 : Memref sig .tc .vmem S1x1x256 .f32) (h14 : a14.IsWhole) (x0 : Vec Ideal S1x3x512x512 .f32)
    (k : Fin k0_t1_loop.trips) (acc : FVec Ideal S64x64 .f32 × FVec Ideal S1x8 .f32) :
      tripR_k0_t1 (F := Ideal) Variants.none c none i a1 h1 a2 h2 a3 h3 a4 h4 a5 h5 a6 h6 a7 h7 a8 h8 a9 h9 a10 h10 a11 h11 a12 h12 a13 h13 a14 h14 (h1.unread x0) k acc
        = (k0_pay17 acc.1 (k0_pay10 (F := Ideal) (k0_pay6 (F := Ideal) (strip x0 (k0_off3 k) (k0_off3_inb k))) (k0_pay8 (F := Ideal) (strip x0 (k0_off2 k) (k0_off2_inb k)) (strip x0 (k0_off3 k) (k0_off3_inb k))) (k0_pay9 (F := Ideal)))
            (k0_pay12 (F := Ideal) (k0_pay6 (F := Ideal) (strip x0 (k0_off3 k) (k0_off3_inb k)))) (iota .tc S64x512x64 32 [2] iota_S64x512x64_d2_w32) (k0_pay14 (F := Ideal) (k0_pay5 (F := Ideal) (strip x0 (k0_off2 k) (k0_off2_inb k)))),
          k0_pay18 acc.2 (k0_pay11 (F := Ideal) (k0_pay2 (F := Ideal) (strip x0 (k0_off1 k) (k0_off1_inb k))) (k0_pay7 (F := Ideal) (strip x0 (k0_off1 k) (k0_off1_inb k)))) (k0_pay13 (F := Ideal) (k0_pay7 (F := Ideal) (strip x0 (k0_off1 k) (k0_off1_inb k))))
            (iota .tc S64x512x8 32 [2] iota_S64x512x8_d2_w32)) := by
  unfold tripR_k0_t1 trip_k0_t1
  dsimp only
  sl_unfold_words
  simp only [View.readAt_eq_ld, h1.read_unread]
  rfl

/-- What one trip adds to the a/b counts and to the lightness counts. -/
theorem trip_apply (c : Dev nD) (i : grid0.Coords) (a1 : Memref sig .tc .vmem S1x3x512x512 .f32) (h1 : a1.IsWhole) (a2 : Memref sig .tc .vmem S9x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1152x1024 .bf16) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1024x256 .f32) (h12 : a12.IsWhole) (a13 : Memref sig .tc .vmem S1x256 .f32) (h13 : a13.IsWhole) (a14 : Memref sig .tc .vmem S1x1x256 .f32) (h14 : a14.IsWhole) (x0 : Vec Ideal S1x3x512x512 .f32)
    (img : Fin 3 → Fin 512 → Fin 512 → EReal) (hx : ∀ n y x, x0 (ix4 0 n y x) = img n y x)
    (k : Fin k0_t1_loop.trips) (k' : Fin 8) (hk : k.val = k'.val) (acc : FVec Ideal S64x64 .f32 × FVec Ideal S1x8 .f32) :
    (∀ p q, (tripR_k0_t1 (F := Ideal) Variants.none c none i a1 h1 a2 h2 a3 h3 a4 h4 a5 h5 a6 h6 a7 h7 a8 h8 a9 h9 a10 h10 a11 h11 a12 h12 a13 h13 a14 h14 (h1.unread x0) k acc).1 (ix2 p q)
      = acc.1 (ix2 p q) + ∑ r : Fin 64, ∑ x : Fin 512, termAB img p q ⟨k'.val * 64 + r.val, by omega⟩ x) ∧
    ∀ p, (tripR_k0_t1 (F := Ideal) Variants.none c none i a1 h1 a2 h2 a3 h3 a4 h4 a5 h5 a6 h6 a7 h7 a8 h8 a9 h9 a10 h10 a11 h11 a12 h12 a13 h13 a14 h14 (h1.unread x0) k acc).2 (ix2 0 p)
      = acc.2 (ix2 0 p) + ∑ r : Fin 64, ∑ x : Fin 512, termL img p ⟨k'.val * 64 + r.val, by omega⟩ x := by
  have h := trip_eq c i a1 h1 a2 h2 a3 h3 a4 h4 a5 h5 a6 h6 a7 h7 a8 h8 a9 h9 a10 h10 a11 h11 a12 h12 a13 h13 a14 h14 x0 k acc
  have s1 : ∀ r x, chan (strip x0 (k0_off1 k) (k0_off1_inb k)) r x = img 0 ⟨k'.val * 64 + r.val, by omega⟩ x := fun r x =>
    (strip_apply x0 (k0_off1 k) (k0_off1_inb k) 0 k' (by rw [k0_off1_eq]; rfl) (by rw [k0_off1_eq]; rfl)
      (by rw [k0_off1_eq, ← hk, Nat.mul_comm]; rfl) (by rw [k0_off1_eq]; rfl) r x).trans (hx _ _ _)
  have s2 : ∀ r x, chan (strip x0 (k0_off2 k) (k0_off2_inb k)) r x = img 1 ⟨k'.val * 64 + r.val, by omega⟩ x := fun r x =>
    (strip_apply x0 (k0_off2 k) (k0_off2_inb k) 1 k' (by rw [k0_off2_eq]; rfl) (by rw [k0_off2_eq]; rfl)
      (by rw [k0_off2_eq, ← hk, Nat.mul_comm]; rfl) (by rw [k0_off2_eq]; rfl) r x).trans (hx _ _ _)
  have s3 : ∀ r x, chan (strip x0 (k0_off3 k) (k0_off3_inb k)) r x = img 2 ⟨k'.val * 64 + r.val, by omega⟩ x := fun r x =>
    (strip_apply x0 (k0_off3 k) (k0_off3_inb k) 2 k' (by rw [k0_off3_eq]; rfl) (by rw [k0_off3_eq]; rfl)
      (by rw [k0_off3_eq, ← hk, Nat.mul_comm]; rfl) (by rw [k0_off3_eq]; rfl) r x).trans (hx _ _ _)
  rw [h]
  refine ⟨fun p q => ?_, fun p => ?_⟩
  · refine (pay17_apply acc.1 (strip x0 (k0_off2 k) (k0_off2_inb k)) (strip x0 (k0_off3 k) (k0_off3_inb k)) iota_S64x512x64_d2_w32 p q).trans ?_
    refine congrArg (fun z : EReal => acc.1 (ix2 p q) + z) ?_
    refine Finset.sum_congr rfl fun r _ => Finset.sum_congr rfl fun x _ => ?_
    rw [s2, s3]; rfl
  · refine (pay18_apply acc.2 (strip x0 (k0_off1 k) (k0_off1_inb k)) iota_S64x512x8_d2_w32 p).trans ?_
    refine congrArg (fun z : EReal => acc.2 (ix2 0 p) + z) ?_
    refine Finset.sum_congr rfl fun r _ => Finset.sum_congr rfl fun x _ => ?_
    rw [s1]; rfl

/-- What the loop holds before trip `n`, started at zeros. -/
theorem loop_apply (c : Dev nD) (i : grid0.Coords) (a1 : Memref sig .tc .vmem S1x3x512x512 .f32) (h1 : a1.IsWhole) (a2 : Memref sig .tc .vmem S9x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1152x1024 .bf16) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1024x256 .f32) (h12 : a12.IsWhole) (a13 : Memref sig .tc .vmem S1x256 .f32) (h13 : a13.IsWhole) (a14 : Memref sig .tc .vmem S1x1x256 .f32) (h14 : a14.IsWhole) (x0 : Vec Ideal S1x3x512x512 .f32)
    (img : Fin 3 → Fin 512 → Fin 512 → EReal) (hx : ∀ n y x, x0 (ix4 0 n y x) = img n y x)
    (init : FVec Ideal S64x64 .f32 × FVec Ideal S1x8 .f32) (hi : (∀ p q, init.1 (ix2 p q) = 0) ∧ ∀ p, init.2 (ix2 0 p) = 0) :
    ∀ (n : ℕ) (hn : n ≤ 8),
    (∀ p q, (st_k0_t1 (F := Ideal) Variants.none c none i a1 h1 a2 h2 a3 h3 a4 h4 a5 h5 a6 h6 a7 h7 a8 h8 a9 h9 a10 h10 a11 h11 a12 h12 a13 h13 a14 h14 (h1.unread x0) init n).1 (ix2 p q)
      = ∑ k : Fin n, ∑ r : Fin 64, ∑ x : Fin 512, termAB img p q ⟨k.val * 64 + r.val, by omega⟩ x) ∧
    ∀ p, (st_k0_t1 (F := Ideal) Variants.none c none i a1 h1 a2 h2 a3 h3 a4 h4 a5 h5 a6 h6 a7 h7 a8 h8 a9 h9 a10 h10 a11 h11 a12 h12 a13 h13 a14 h14 (h1.unread x0) init n).2 (ix2 0 p)
      = ∑ k : Fin n, ∑ r : Fin 64, ∑ x : Fin 512, termL img p ⟨k.val * 64 + r.val, by omega⟩ x
  | 0, _ => ⟨fun p q => (hi.1 p q).trans rfl, fun p => (hi.2 p).trans rfl⟩
  | n + 1, hn => by
    have ih := loop_apply c i a1 h1 a2 h2 a3 h3 a4 h4 a5 h5 a6 h6 a7 h7 a8 h8 a9 h9 a10 h10 a11 h11 a12 h12 a13 h13 a14 h14 x0 img hx init hi n (by omega)
    have ht : n < k0_t1_loop.trips := by rw [trips_eight]; omega
    have hs := st_k0_t1_succ (F := Ideal) Variants.none c none i a1 h1 a2 h2 a3 h3 a4 h4 a5 h5 a6 h6 a7 h7 a8 h8 a9 h9 a10 h10 a11 h11 a12 h12 a13 h13 a14 h14 (h1.unread x0) init ⟨n, ht⟩
    have hp := trip_apply c i a1 h1 a2 h2 a3 h3 a4 h4 a5 h5 a6 h6 a7 h7 a8 h8 a9 h9 a10 h10 a11 h11 a12 h12 a13 h13 a14 h14 x0 img hx ⟨n, ht⟩ ⟨n, by omega⟩ rfl
      (st_k0_t1 (F := Ideal) Variants.none c none i a1 h1 a2 h2 a3 h3 a4 h4 a5 h5 a6 h6 a7 h7 a8 h8 a9 h9 a10 h10 a11 h11 a12 h12 a13 h13 a14 h14 (h1.unread x0) init n)
    refine ⟨fun p q => ?_, fun p => ?_⟩
    · rw [Fin.sum_univ_castSucc]
      refine (congrArg (fun z : FVec Ideal S64x64 .f32 × FVec Ideal S1x8 .f32 => z.1 (ix2 p q)) hs).trans ?_
      refine (hp.1 p q).trans ?_
      rw [ih.1 p q]; rfl
    · rw [Fin.sum_univ_castSucc]
      refine (congrArg (fun z : FVec Ideal S64x64 .f32 × FVec Ideal S1x8 .f32 => z.2 (ix2 0 p)) hs).trans ?_
      refine (hp.2 p).trans ?_
      rw [ih.2 p]; rfl

/-- After the eight trips the loop holds the counts of the whole image. -/
theorem loop_counts (c : Dev nD) (i : grid0.Coords) (a1 : Memref sig .tc .vmem S1x3x512x512 .f32) (h1 : a1.IsWhole) (a2 : Memref sig .tc .vmem S9x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1152x1024 .bf16) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1024x256 .f32) (h12 : a12.IsWhole) (a13 : Memref sig .tc .vmem S1x256 .f32) (h13 : a13.IsWhole) (a14 : Memref sig .tc .vmem S1x1x256 .f32) (h14 : a14.IsWhole) (x0 : Vec Ideal S1x3x512x512 .f32)
    (img : Fin 3 → Fin 512 → Fin 512 → EReal) (hx : ∀ n y x, x0 (ix4 0 n y x) = img n y x)
    (init : FVec Ideal S64x64 .f32 × FVec Ideal S1x8 .f32) (hi : (∀ p q, init.1 (ix2 p q) = 0) ∧ ∀ p, init.2 (ix2 0 p) = 0) :
    (∀ p q, (st_k0_t1 (F := Ideal) Variants.none c none i a1 h1 a2 h2 a3 h3 a4 h4 a5 h5 a6 h6 a7 h7 a8 h8 a9 h9 a10 h10 a11 h11 a12 h12 a13 h13 a14 h14 (h1.unread x0) init k0_t1_loop.trips).1 (ix2 p q) = cntAB img p q) ∧
    ∀ p, (st_k0_t1 (F := Ideal) Variants.none c none i a1 h1 a2 h2 a3 h3 a4 h4 a5 h5 a6 h6 a7 h7 a8 h8 a9 h9 a10 h10 a11 h11 a12 h12 a13 h13 a14 h14 (h1.unread x0) init k0_t1_loop.trips).2 (ix2 0 p) = cntL img p := by
  rw [trips_eight]
  obtain ⟨ha, hb⟩ := loop_apply c i a1 h1 a2 h2 a3 h3 a4 h4 a5 h5 a6 h6 a7 h7 a8 h8 a9 h9 a10 h10 a11 h11 a12 h12 a13 h13 a14 h14 x0 img hx init hi 8 (le_refl 8)
  refine ⟨fun p q => (ha p q).trans ?_, fun p => (hb p).trans ?_⟩
  · exact (sum_split (m := 8) (n := 64) (N := 512) rfl fun y => ∑ x, termAB img p q y x).symm
  · exact (sum_split (m := 8) (n := 64) (N := 512) rfl fun y => ∑ x, termL img p y x).symm

end Cert.Hen
-- ==== Proof.KCols.lean ====
/- The kernel's columns of the pooled first layer: two pooled histograms against the positive and the negative part of
   the scaled weights, one column of the plane at a time, stacked. -/
module

public import proofs.«01_k».proof.Proof.KPool

@[expose] public section

noncomputable section

namespace Cert.Hen

open Idealize.ShloMosaic Idealize.ShloMosaic.ValueIdx Cert.KernelIdeal Cert.KernelIdeal.Gen

/-- The positive part of a row over its negative part. -/
theorem pay32_apply (x : FVec Ideal S1x128 .f32) (o : Fin 128) :
    k0_pay32 (F := Ideal) x (ix2 0 o) = max (x (ix2 0 o)) w0 ∧ k0_pay32 (F := Ideal) x (ix2 1 o) = min (x (ix2 0 o)) w0 := by
  constructor
  · unfold k0_pay32
    exact concatenate_apply_piece (t := S2x128) (0 : Fin 2) [⟨S1x128, maximumf x (broadcast S1x128 w0)⟩, ⟨S1x128, minimumf x (broadcast S1x128 w0)⟩] _ (ix2 0 o) 0 (by show 0 < 2; omega) S1x128 _ rfl rfl 0 rfl (ix2 0 o)
      (fun d => match d with
        | ⟨0, _⟩ => fun h => absurd rfl h
        | ⟨1, _⟩ => fun _ => rfl) rfl
  · unfold k0_pay32
    exact concatenate_apply_piece (t := S2x128) (0 : Fin 2) [⟨S1x128, maximumf x (broadcast S1x128 w0)⟩, ⟨S1x128, minimumf x (broadcast S1x128 w0)⟩] _ (ix2 1 o) 1 (by show 1 < 2; omega) S1x128 _ rfl rfl 1 rfl (ix2 0 o)
      (fun d => match d with
        | ⟨0, _⟩ => fun h => absurd rfl h
        | ⟨1, _⟩ => fun _ => rfl) rfl

/-- One column of the plane: column j of the largest and of the smallest cells against the two parts, plus the base. -/
def column (j : ℕ) (hs : S33x33.Slices ![0, j] S33x1) (t : FVec Ideal S1x128 .f32) (a b : FVec Ideal S33x33 .f32)
    (w : FVec Ideal S2x128 .f32) : FVec Ideal S33x128 .f32 :=
  addf (matmul dot_S33x2_S2x128_S33x128_1_0_0_1_n_n none
      (concatenate S33x2 1 [⟨S33x1, extractStridedSlice S33x1 ![0, j] a hs⟩, ⟨S33x1, extractStridedSlice S33x1 ![0, j] b hs⟩]
        concatenates_S33x1_S33x1_S33x2_d1) w (constant S33x128 .f32 0x00000000#32))
    (broadcastTo S33x128 t broadcasts_S1x128_S33x128)

theorem column_apply (j : Fin 33) (hs : S33x33.Slices ![0, j.val] S33x1) (t : FVec Ideal S1x128 .f32)
    (a b : FVec Ideal S33x33 .f32) (w : FVec Ideal S2x128 .f32) (i : Fin 33) (o : Fin 128) :
    column j.val hs t a b w (ix2 i o) = a (ix2 i j) * w (ix2 0 o) + b (ix2 i j) * w (ix2 1 o) + t (ix2 0 o) := by
  unfold column
  rw [addf_apply, product_apply dot_S33x2_S2x128_S33x128_1_0_0_1_n_n rfl, Fin.sum_univ_two]
  have e0 := concatenate_apply_piece (t := S33x2) (1 : Fin 2)
    [⟨S33x1, extractStridedSlice S33x1 ![0, j.val] a hs⟩, ⟨S33x1, extractStridedSlice S33x1 ![0, j.val] b hs⟩]
    concatenates_S33x1_S33x1_S33x2_d1 (ix2 i 0) 0 (by show 0 < 2; omega) S33x1 _ rfl rfl 0 rfl (ix2 i 0)
      (fun d => match d with
        | ⟨0, _⟩ => fun _ => rfl
        | ⟨1, _⟩ => fun h => absurd rfl h) rfl
  have e1 := concatenate_apply_piece (t := S33x2) (1 : Fin 2)
    [⟨S33x1, extractStridedSlice S33x1 ![0, j.val] a hs⟩, ⟨S33x1, extractStridedSlice S33x1 ![0, j.val] b hs⟩]
    concatenates_S33x1_S33x1_S33x2_d1 (ix2 i 1) 1 (by show 1 < 2; omega) S33x1 _ rfl rfl 1 rfl (ix2 i 0)
      (fun d => match d with
        | ⟨0, _⟩ => fun _ => rfl
        | ⟨1, _⟩ => fun h => absurd rfl h) rfl
  have hi := i.isLt
  have hj := j.isLt
  have p : (ix2 (⟨0 + i.val, by omega⟩ : Fin 33) (⟨j.val + (0 : Fin 1).val, by show j.val + 0 < 33; omega⟩ : Fin 33)) = ix2 i j := by
    congr 1
    exact Fin.ext (Nat.zero_add _)
  rw [e0, e1, window2 0 j.val a hs i 0 (by omega) (by show j.val + 0 < 33; omega),
    window2 0 j.val b hs i 0 (by omega) (by show j.val + 0 < 33; omega), p]
  refine congrArg₂ (· + ·) rfl ?_
  exact broadcastTo_1b_ab_apply t _ i o

/-- Every column is a window of the plane. -/
theorem column_fits (j : Fin 33) : S33x33.Slices ![0, j.val] S33x1 := by
  revert j
  decide

/-- The columns stacked are the plane, its first axis the column. -/
def plane (t : FVec Ideal S1x128 .f32) (a b : FVec Ideal S33x33 .f32) (w : FVec Ideal S2x128 .f32) : FVec Ideal S33x33x128 .f32 :=
  k0_pay70 (F := Ideal) t a b w
    (column 0 (column_fits 0) t a b w)
    (column 1 (column_fits 1) t a b w)
    (column 2 (column_fits 2) t a b w)
    (column 3 (column_fits 3) t a b w)
    (column 4 (column_fits 4) t a b w)
    (column 5 (column_fits 5) t a b w)
    (column 6 (column_fits 6) t a b w)
    (column 7 (column_fits 7) t a b w)
    (column 8 (column_fits 8) t a b w)
    (column 9 (column_fits 9) t a b w)
    (column 10 (column_fits 10) t a b w)
    (column 11 (column_fits 11) t a b w)
    (column 12 (column_fits 12) t a b w)
    (column 13 (column_fits 13) t a b w)
    (column 14 (column_fits 14) t a b w)
    (column 15 (column_fits 15) t a b w)
    (column 16 (column_fits 16) t a b w)
    (column 17 (column_fits 17) t a b w)
    (column 18 (column_fits 18) t a b w)
    (column 19 (column_fits 19) t a b w)
    (column 20 (column_fits 20) t a b w)
    (column 21 (column_fits 21) t a b w)
    (column 22 (column_fits 22) t a b w)
    (column 23 (column_fits 23) t a b w)
    (column 24 (column_fits 24) t a b w)
    (column 25 (column_fits 25) t a b w)
    (column 26 (column_fits 26) t a b w)
    (column 27 (column_fits 27) t a b w)
    (column 28 (column_fits 28) t a b w)
    (column 29 (column_fits 29) t a b w)
    (column 30 (column_fits 30) t a b w)
    (column 31 (column_fits 31) t a b w)

theorem plane_eq (t : FVec Ideal S1x128 .f32) (a b : FVec Ideal S33x33 .f32) (w : FVec Ideal S2x128 .f32)
    (h : Shape.Concatenates ((List.ofFn fun n : Fin 33 => (⟨S1x33x128, shapeCast S1x33x128 (column n.val (column_fits n) t a b w)
      shapeCasts_S33x128_S1x33x128⟩ : (s : Shape) × (s.Idx → EReal))).map (·.1)) S33x33x128 0) :
    plane t a b w = concatenate S33x33x128 0 (List.ofFn fun n : Fin 33 => (⟨S1x33x128, shapeCast S1x33x128
      (column n.val (column_fits n) t a b w) shapeCasts_S33x128_S1x33x128⟩ : (s : Shape) × (s.Idx → EReal))) h := rfl

theorem plane_apply (t : FVec Ideal S1x128 .f32) (a b : FVec Ideal S33x33 .f32) (w : FVec Ideal S2x128 .f32)
    (j i : Fin 33) (o : Fin 128) :
    plane t a b w (ix3 j i o) = a (ix2 i j) * w (ix2 0 o) + b (ix2 i j) * w (ix2 1 o) + t (ix2 0 o) := by
  rw [plane_eq t a b w concatenates_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S1x33x128_S33x33x128_d0]
  refine (concatenate_ofFn_unit_apply (t := S33x33x128) (s₁ := S1x33x128) (0 : Fin 3) _ _ rfl rfl (ix3 j i o) j rfl (ix3 0 i o)
    (fun d => match d with
        | ⟨0, _⟩ => fun h => absurd rfl h
        | ⟨1, _⟩ => fun _ => rfl
        | ⟨2, _⟩ => fun _ => rfl)).trans ?_
  rw [← column_apply j (column_fits j) t a b w i o]
  exact shapeCast_ab_1ab_apply _ _ 0 i o

end Cert.Hen

end
-- ==== Proof.KConv.lean ====
/- The kernel's second layer: the rectified plane with its ring of zeros, the nine shifted windows side by side, and the
   one product that is the convolution. -/
module

public import proofs.«01_k».proof.Proof.KCols
public import proofs.«01_k».proof.Proof.Consts

@[expose] public section

noncomputable section

namespace Cert.Hen

open Idealize.ShloMosaic Idealize.ShloMosaic.ValueIdx Cert.KernelIdeal Cert.KernelIdeal.Gen

/-- The four edge tests of a plane position, in machine words and in plain numbers. -/
theorem edge_word (j i : Fin 33) :
    IntOp.ori (IntOp.ori (IntOp.ori (IntOp.cmpi .eq (BitVec.ofNat 32 i.val) 0#32) (IntOp.cmpi .eq (BitVec.ofNat 32 i.val) 32#32))
      (IntOp.cmpi .eq (BitVec.ofNat 32 j.val) 0#32)) (IntOp.cmpi .eq (BitVec.ofNat 32 j.val) 32#32) =
      if i.val = 0 ∨ i.val = 32 ∨ j.val = 0 ∨ j.val = 32 then 1#1 else 0#1 := by
  revert j i
  decide +kernel

/-- The bit marking the plane's edge. -/
theorem pay71_apply (j i : Fin 33) (o : Fin 128) :
    k0_pay71 (ix3 j i o) = if i.val = 0 ∨ i.val = 32 ∨ j.val = 0 ∨ j.val = 32 then 1#1 else 0#1 := by
  rw [← edge_word]
  have h : k0_pay71 (ix3 j i o) = IntOp.ori (IntOp.ori (IntOp.ori
      (IntOp.cmpi .eq (iota .tc S33x33x128 32 [1] iota_S33x33x128_d1_w32 (ix3 j i o)) 0#32)
      (IntOp.cmpi .eq (iota .tc S33x33x128 32 [1] iota_S33x33x128_d1_w32 (ix3 j i o)) 32#32))
      (IntOp.cmpi .eq (iota .tc S33x33x128 32 [0] iota_S33x33x128_d0_w32 (ix3 j i o)) 0#32))
      (IntOp.cmpi .eq (iota .tc S33x33x128 32 [0] iota_S33x33x128_d0_w32 (ix3 j i o)) 32#32) := rfl
  rw [h, iota_single_apply, iota_single_apply]

/-- The rectified plane: the larger of the inner map and the edge's shift, and zero. -/
def rect (z : FVec Ideal S33x33x128 .f32) (e : IVec S33x33x128 1) (t : FVec Ideal S1x1x128 .f32) (lo : EReal) :
    FVec Ideal S33x33x128 .bf16 :=
  truncf .bf16 (maximumf (maximumf z (select e (broadcastTo S33x33x128 (shapeCast S1x1x128 t shapeCasts_S1x1x128_S1x1x128)
    broadcasts_S1x1x128_S33x33x128) (broadcast S33x33x128 lo))) (broadcast S33x33x128 w0)) bitsLt_bf16_f32

theorem rect_apply (z : FVec Ideal S33x33x128 .f32) (t : FVec Ideal S1x128 .f32) (lo : EReal) (j i : Fin 33) (o : Fin 128) :
    rect z k0_pay71 (k0_pay72 t) lo (ix3 j i o) = max (max (z (ix3 j i o))
      (if i.val = 0 ∨ i.val = 32 ∨ j.val = 0 ∨ j.val = 32 then t (ix2 0 o) else lo)) 0 := by
  have h : rect z k0_pay71 (k0_pay72 t) lo (ix3 j i o) = max (max (z (ix3 j i o)) (Scalar.select (k0_pay71 (ix3 j i o))
      (broadcastTo S33x33x128 (shapeCast S1x1x128 (k0_pay72 t) shapeCasts_S1x1x128_S1x1x128)
    broadcasts_S1x1x128_S33x33x128 (ix3 j i o)) lo)) w0 := rfl
  have hb : broadcastTo S33x33x128 (shapeCast S1x1x128 (k0_pay72 t) shapeCasts_S1x1x128_S1x1x128)
    broadcasts_S1x1x128_S33x33x128 (ix3 j i o) = t (ix2 0 o) := by
    rw [broadcastTo_apply _ _ (ix3 j i o) (ix3 (0 : Fin 1) (0 : Fin 1) o) (fun d => match d with
      | ⟨0, _⟩ => rfl
      | ⟨1, _⟩ => rfl
      | ⟨2, _⟩ => rfl), shapeCast_self]
    exact shapeCast_ab_1ab_apply t _ 0 0 o
  rw [h, hb, pay71_apply, w0_eq]
  split
  · rw [select_one]
  · rw [select_zero]

/-- The plane with a ring of zeros. -/
def ring2 (z : FVec Ideal S33x33x128 .bf16) : FVec Ideal S35x35x128 .bf16 :=
  concatenate S35x35x128 0 [⟨S1x35x128, broadcast S1x35x128 (Ideal.ofBits .bf16 0x0000#16)⟩,
    ⟨S33x35x128, concatenate S33x35x128 1 [⟨S33x1x128, broadcast S33x1x128 (Ideal.ofBits .bf16 0x0000#16)⟩, ⟨S33x33x128, z⟩,
      ⟨S33x1x128, broadcast S33x1x128 (Ideal.ofBits .bf16 0x0000#16)⟩] concatenates_S33x1x128_S33x33x128_S33x1x128_S33x35x128_d1⟩,
    ⟨S1x35x128, broadcast S1x35x128 (Ideal.ofBits .bf16 0x0000#16)⟩] concatenates_S1x35x128_S33x35x128_S1x35x128_S35x35x128_d0

theorem ring2_apply (z : FVec Ideal S33x33x128 .bf16) (j i : Fin 35) (k : Fin 128) :
    ring2 z (ix3 j i k) = ringed (fun r c => z (ix3 c r k)) i.val j.val := by
  unfold ring2 ringed
  rw [between_first, zero_bf16]
  split
  · rename_i hj
    rw [between_mid]
    split
    · rename_i hi
      rw [dif_pos ⟨hi.1, hi.2, hj.1, hj.2⟩]
    · rename_i hi
      rw [dif_neg (fun h => hi ⟨h.1, h.2.1⟩)]
  · rename_i hj
    rw [dif_neg (fun h => hj ⟨h.2.2.1, h.2.2.2⟩)]

/-- Every window of the nine lies in the ringed plane. -/
theorem patch_fits (t : Fin 9) : S35x35x128.Slices ![t.val % 3, t.val / 3, 0] S33x33x128 := by
  revert t
  decide

/-- Window t of the nine, its positions in one row order. -/
def patch (y : FVec Ideal S35x35x128 .bf16) (t : Fin 9) : FVec Ideal S1089x128 .bf16 :=
  shapeCast S1089x128 (extractStridedSlice S33x33x128 ![t.val % 3, t.val / 3, 0] y (patch_fits t)) shapeCasts_S33x33x128_S1089x128

theorem patch_apply (y : FVec Ideal S35x35x128 .bf16) (t : Fin 9) (n : Fin 1089) (k : Fin 128) :
    patch y t (ix2 n k) = y (ix3 ⟨t.val % 3 + n.val / 33, by omega⟩ ⟨t.val / 3 + n.val % 33, by omega⟩ ⟨0 + k.val, by omega⟩) := by
  unfold patch
  refine (shapeCast_apply _ _ (ix2 n k) (ix3 (⟨n.val / 33, by omega⟩ : Fin 33) (⟨n.val % 33, by omega⟩ : Fin 33) k) ?_).trans ?_
  · rw [Shape.rowMajor_val_three, Shape.rowMajor_val_two]
    show (n.val / 33 * 33 + n.val % 33) * 128 + k.val = n.val * 128 + k.val
    omega
  · exact window3 _ _ 0 y _ _ _ k _ _ _

/-- The nine windows side by side. -/
def patches (y : FVec Ideal S35x35x128 .bf16) : FVec Ideal S1089x1152 .bf16 :=
  concatenate S1089x1152 1 [⟨S1089x128, patch y 0⟩, ⟨S1089x128, patch y 1⟩, ⟨S1089x128, patch y 2⟩, ⟨S1089x128, patch y 3⟩,
    ⟨S1089x128, patch y 4⟩, ⟨S1089x128, patch y 5⟩, ⟨S1089x128, patch y 6⟩, ⟨S1089x128, patch y 7⟩, ⟨S1089x128, patch y 8⟩]
    concatenates_S1089x128_S1089x128_S1089x128_S1089x128_S1089x128_S1089x128_S1089x128_S1089x128_S1089x128_S1089x1152_d1

theorem patches_eq (y : FVec Ideal S35x35x128 .bf16)
    (h : Shape.Concatenates ((List.ofFn fun n : Fin 9 => (⟨S1089x128, patch y n⟩ : (s : Shape) × (s.Idx → EReal))).map (·.1)) S1089x1152 1) :
    patches y = concatenate S1089x1152 1 (List.ofFn fun n : Fin 9 => (⟨S1089x128, patch y n⟩ : (s : Shape) × (s.Idx → EReal))) h := rfl

theorem patches_apply (y : FVec Ideal S35x35x128 .bf16) (n : Fin 1089) (t : Fin 9) (k : Fin 128) :
    patches y (ix2 n ⟨t.val * 128 + k.val, by omega⟩) = patch y t (ix2 n k) := by
  rw [patches_eq y concatenates_S1089x128_S1089x128_S1089x128_S1089x128_S1089x128_S1089x128_S1089x128_S1089x128_S1089x128_S1089x1152_d1]
  refine concatenate_ofFn_apply (t := S1089x1152) (s₁ := S1089x128) (1 : Fin 2) _ _ rfl 128 rfl _ t ?_ (ix2 n k) ?_ ?_
  · show (t.val * 128 + k.val) / 128 = t.val
    omega
  · show k.val = (t.val * 128 + k.val) % 128
    omega
  · exact fun d => match d with
        | ⟨0, _⟩ => fun _ => rfl
        | ⟨1, _⟩ => fun h => absurd rfl h

/-- The product of the windows with the weights, at a position of the plane: nine taps. -/
theorem pay73_apply (z : FVec Ideal S33x33x128 .f32) (e : IVec S33x33x128 1) (t : FVec Ideal S1x1x128 .f32) (lo : EReal)
    (w : FVec Ideal S1152x1024 .bf16) (j i : Fin 33) (o : Fin 1024) :
    k0_pay73 (F := Ideal) z e t lo w (ix2 ⟨j.val * 33 + i.val, by omega⟩ o) =
      conv2 (fun k r c => rect z e t lo (ix3 c r k))
        (fun k di dj => w (ix2 ⟨(di.val * 3 + dj.val) * 128 + k.val, by omega⟩ o)) i j := by
  have h : k0_pay73 (F := Ideal) z e t lo w = matmul (φ₁ := .bf16) (φ₂ := .bf16) dot_S1089x1152_S1152x1024_S1089x1024_1_0_0_1_n_n none
    (patches (ring2 (rect z e t lo))) (shapeCast S1152x1024 w shapeCasts_S1152x1024_S1152x1024) (constant S1089x1024 .f32 0x00000000#32) := rfl
  rw [h, product_apply dot_S1089x1152_S1152x1024_S1089x1024_1_0_0_1_n_n rfl, shapeCast_self,
    sum_split (m := 9) (n := 128) rfl]
  simp only [patches_apply, patch_apply, ring2_apply]
  rw [sum_split (m := 3) (n := 3) rfl]
  unfold conv2 tap
  refine Finset.sum_congr rfl fun di _ => Finset.sum_congr rfl fun dj _ => Finset.sum_congr rfl fun k _ => ?_
  have hdi := di.isLt
  have hdj := dj.isLt
  have hi := i.isLt
  refine congrArg₂ (· * ·) ?_ rfl
  have e1 : (di.val * 3 + dj.val) / 3 + (j.val * 33 + i.val) % 33 = i.val + di.val := by omega
  have e2 : (di.val * 3 + dj.val) % 3 + (j.val * 33 + i.val) / 33 = j.val + dj.val := by omega
  show ringed (fun r c => rect z e t lo (ix3 c r ⟨0 + k.val, _⟩)) ((di.val * 3 + dj.val) / 3 + (j.val * 33 + i.val) % 33)
    ((di.val * 3 + dj.val) % 3 + (j.val * 33 + i.val) / 33) = _
  rw [e1, e2]
  simp only [Nat.zero_add]

end Cert.Hen

end
-- ==== Proof.KTail.lean ====
/- The kernel's small pieces at an index: both normalisations' multipliers and shifts, the normalised histograms, and the
   last product over the channel means. -/
module

public import proofs.«01_k».proof.Proof.KConv

@[expose] public section

noncomputable section

namespace Cert.Hen

open Idealize.ShloMosaic Idealize.ShloMosaic.ValueIdx Cert.KernelIdeal Cert.KernelIdeal.Gen

theorem pay20_apply (g v : FVec Ideal S1x128 .f32) (o : Fin 128) :
    k0_pay20 (F := Ideal) g v (ix2 0 o) = bnInv (g (ix2 0 o)) (v (ix2 0 o)) := by
  unfold k0_pay20
  rw [mulf_apply, shapeCast_self, shapeCast_self]
  rfl

theorem pay21_apply (g v b m : FVec Ideal S1x128 .f32) (o : Fin 128) :
    k0_pay21 (F := Ideal) g v b m (ix2 0 o) = bnShift (g (ix2 0 o)) (b (ix2 0 o)) (m (ix2 0 o)) (v (ix2 0 o)) := by
  unfold k0_pay21
  rw [subf_apply, mulf_apply, shapeCast_self, shapeCast_self, pay20_apply]
  rfl

theorem pay22_apply (g v w : FVec Ideal S1x128 .f32) (o : Fin 128) :
    k0_pay22 (F := Ideal) g v w (ix2 0 o) = w (ix2 0 o) * bnInv (g (ix2 0 o)) (v (ix2 0 o)) := by
  unfold k0_pay22
  rw [mulf_apply, shapeCast_self, pay20_apply]

theorem pay74_apply (g v : FVec Ideal S1x1024 .f32) (o : Fin 1024) :
    k0_pay74 (F := Ideal) g v (ix2 0 o) = bnInv (g (ix2 0 o)) (v (ix2 0 o)) := by
  unfold k0_pay74
  rw [mulf_apply, shapeCast_self, shapeCast_self]
  rfl

/-- The sum of a whole matrix, as the kernel takes it. -/
theorem total_apply {a b : ℕ} (x : FVec Ideal ⟨2, ![a, b]⟩ .f32) (hc : (⟨2, ![a, b]⟩ : Shape).ShapeCasts ⟨3, ![1, a, b]⟩)
    (hr : (⟨3, ![1, a, b]⟩ : Shape).Reduces [1, 2] S1) (hφ : FKind.Formats .f32) (hacc : 0x00000000#32 = FKind.add.neutral .f32 hφ)
    (hs : S1.ShapeCasts S1x1x1) (hp : ∀ d, (![0, 0, 0] : Fin 3 → ℕ) d < S1x1x1.size d) :
    extractAt ![0, 0, 0] (shapeCast S1x1x1 (multiReduction (F := Ideal) (φ := .f32) .add [1, 2] S1 (shapeCast ⟨3, ![1, a, b]⟩ x hc)
      0x00000000#32 hr hφ hacc) hs) hp = ∑ p : Fin a, ∑ q : Fin b, x (ix2 p q) := by
  unfold extractAt
  refine (shapeCast_apply _ _ _ (ix1 (0 : Fin 1)) (by
    rw [Shape.rowMajor_val_one, Shape.rowMajor_val_three]
    rfl)).trans ?_
  refine (Ideal.multiReduction_add_total _ _ hr (fun d => by rw [Subsingleton.elim d 0]; rfl) hφ hacc _).trans ?_
  rw [sum_ix3, Fin.sum_univ_one]
  refine Finset.sum_congr rfl fun p' _ => Finset.sum_congr rfl fun q' _ => ?_
  exact shapeCast_ab_1ab_apply x _ 0 p' q'

/-- The a/b histogram over its total. -/
theorem pay19_apply (h : FVec Ideal S64x64 .f32) (p q : Fin 64) :
    k0_pay19 (F := Ideal) h (ix2 p q) = Ideal.div (h (ix2 p q)) (∑ p' : Fin 64, ∑ q' : Fin 64, h (ix2 p' q')) := by
  rw [← total_apply h shapeCasts_S64x64_S1x64x64 reduces_S1x64x64_S1 (.inl rfl) rfl shapeCasts_S1_S1x1x1 inpos_S1x1x1_p0_0_0]
  rfl

/-- The lightness histogram over its total, against the weights, scaled. -/
theorem pay23_apply (h : FVec Ideal S1x8 .f32) (g v : FVec Ideal S1x128 .f32) (w : FVec Ideal S8x128 .f32) (o : Fin 128) :
    k0_pay23 (F := Ideal) h g v w (ix2 0 o) =
      (∑ k : Fin 8, Ideal.div (h (ix2 0 k)) (∑ k' : Fin 8, h (ix2 0 k')) * w (ix2 k o)) * bnInv (g (ix2 0 o)) (v (ix2 0 o)) := by
  unfold k0_pay23
  rw [mulf_apply, pay20_apply, product_apply dot_S1x8_S8x128_S1x128_1_0_0_1_n_n rfl, shapeCast_self]
  refine congrArg (· * _) (Finset.sum_congr rfl fun k _ => congrArg (· * _) ?_)
  have e : (∑ k' : Fin 8, h (ix2 0 k')) = ∑ p : Fin 1, ∑ k' : Fin 8, h (ix2 p k') := by
    rw [Fin.sum_univ_one]
  rw [e, ← total_apply h shapeCasts_S1x8_S1x1x8 reduces_S1x1x8_S1 (.inl rfl) rfl shapeCasts_S1_S1x1x1 inpos_S1x1x1_p0_0_0]
  rfl

/-- The last piece: the channel means of the normalised rectified plane against the last weights, plus the last bias. -/
theorem pay1_apply (y : FVec Ideal S1089x1024 .f32) (i b m : FVec Ideal S1x1024 .f32) (w : FVec Ideal S1024x256 .f32)
    (bl : FVec Ideal S1x256 .f32) (o : Fin 256) :
    k0_pay1 (F := Ideal) y i b m w bl (ix3 0 0 o) =
      (∑ k : Fin 1024, (∑ n : Fin 1089, max (y (ix2 n k) * i (ix2 0 k) + (b (ix2 0 k) - m (ix2 0 k) * i (ix2 0 k))) 0) *
        ((1 / 1089 : ℝ) : EReal) * w (ix2 k o)) + bl (ix2 0 o) := by
  unfold k0_pay1
  refine (shapeCast_ab_1ab_apply _ _ 0 0 o).trans ?_
  rw [addf_apply, product_apply dot_S1x1024_S1024x256_S1x256_1_0_0_1_n_n rfl]
  simp only [shapeCast_self]
  refine congrArg (fun z : EReal => z + bl (ix2 0 o)) (Finset.sum_congr rfl fun k _ => congrArg (fun z : EReal => z * w (ix2 k o)) ?_)
  rw [mulf_apply]
  refine congrArg₂ (· * ·) ?_ (IdealRules.named_const.ideal_named_scalar _ _ _ _ rfl)
  refine (shapeCast_a_1a_apply _ _ 0 k).trans ?_
  refine (Ideal.multiReduction_add_single _ _ reduces_S1089x1024_S1024 (.inl rfl) rfl _).trans ?_
  refine Finset.sum_congr rfl fun (n : Fin 1089) _ => ?_
  have hl : Shape.Reduces.lift reduces_S1089x1024_S1024 (ix1 k) n = ix2 n k := by
    funext d
    match d with
    | ⟨0, _⟩ => rfl
    | ⟨1, _⟩ => rfl
  rw [hl, maximumf_apply, addf_apply, mulf_apply]
  rw [broadcastTo_1b_ab_apply, broadcastTo_1b_ab_apply, subf_apply, mulf_apply]
  show max _ w0 = _
  rw [w0_eq]

end Cert.Hen

end
-- ==== Proof.KBlock.lean ====
module

public import proofs.«01_k».proof.Proof.KLoop
public import proofs.«01_k».proof.Proof.KCols
public import proofs.«01_k».proof.Proof.KConv
public import proofs.«01_k».proof.Proof.KTail
public import proofs.«01_k».proof.Proof.KPool

@[expose] public section

noncomputable section

open Idealize.ShloMosaic Idealize.ShloMosaic.ValueIdx Cert.KernelIdeal Cert.KernelIdeal.Gen

namespace Cert.Hen

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first layer's rectangle before pooling's last step: from the a/b counts `h`, the lightness counts `l`, and the loaded operands. -/
def planeOf (h : FVec Ideal S64x64 .f32) (l : FVec Ideal S1x8 .f32) (wa : FVec Ideal S1x128 .f32) (wb : FVec Ideal S8x128 .f32)
    (g b m v : FVec Ideal S1x128 .f32) : FVec Ideal S33x33x128 .f32 :=
  plane (k0_pay24 (F := Ideal) (k0_pay21 (F := Ideal) g v b m) (k0_pay23 (F := Ideal) l g v wb))
    (k0_pay30 (F := Ideal) (k0_pay25 (F := Ideal) (k0_pay19 (F := Ideal) h)) k0_pay27 k0_pay28)
    (k0_pay31 (F := Ideal) (k0_pay26 (F := Ideal) (k0_pay19 (F := Ideal) h)) k0_pay27 k0_pay28)
    (k0_pay32 (F := Ideal) (k0_pay22 (F := Ideal) g v wa))

/-- What one block of the grid stores, from the two histograms' counts and the loaded operands. -/
def blockOf (h : FVec Ideal S64x64 .f32) (l : FVec Ideal S1x8 .f32) (wa : FVec Ideal S1x128 .f32) (wb : FVec Ideal S8x128 .f32)
    (g b m v : FVec Ideal S1x128 .f32) (w2 : FVec Ideal S1152x1024 .bf16) (g2 b2 m2 v2 : FVec Ideal S1x1024 .f32)
    (wl : FVec Ideal S1024x256 .f32) (bl : FVec Ideal S1x256 .f32) : FVec Ideal S1x1x256 .f32 :=
  k0_pay1 (F := Ideal) (k0_pay73 (F := Ideal) (planeOf h l wa wb g b m v) k0_pay71 (k0_pay72 (F := Ideal) (k0_pay21 (F := Ideal) g v b m))
      (Scalar.ofBits .f32 0xF149F2CA#32) w2)
    (k0_pay74 (F := Ideal) g2 v2) (k0_pay75 (F := Ideal) b2) m2 wl bl

/-- What a grid point leaves in the output block, the loop's value named. -/
theorem out_eq (c : Dev nD) (i : grid0.Coords) (a1 : Memref sig .tc .vmem S1x3x512x512 .f32) (h1 : a1.IsWhole) (a2 : Memref sig .tc .vmem S9x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1152x1024 .bf16) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1024x256 .f32) (h12 : a12.IsWhole) (a13 : Memref sig .tc .vmem S1x256 .f32) (h13 : a13.IsWhole) (a14 : Memref sig .tc .vmem S1x1x256 .f32) (h14 : a14.IsWhole) (x0 : Vec Ideal S1x3x512x512 .f32) (x1 : Vec Ideal S9x128 .f32) (x2 : Vec Ideal S1x128 .f32) (x3 : Vec Ideal S1x128 .f32) (x4 : Vec Ideal S1x128 .f32) (x5 : Vec Ideal S1x128 .f32) (x6 : Vec Ideal S1152x1024 .bf16) (x7 : Vec Ideal S1x1024 .f32) (x8 : Vec Ideal S1x1024 .f32) (x9 : Vec Ideal S1x1024 .f32) (x10 : Vec Ideal S1x1024 .f32) (x11 : Vec Ideal S1024x256 .f32) (x12 : Vec Ideal S1x256 .f32) :
    out0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8 x9 x10 x11 x12 =
      blockOf (st_k0_t1 (F := Ideal) Variants.none c none i a1 h1 a2 h2 a3 h3 a4 h4 a5 h5 a6 h6 a7 h7 a8 h8 a9 h9 a10 h10 a11 h11 a12 h12 a13 h13 a14 h14 (h1.unread x0) (k0_pay15, k0_pay16) k0_t1_loop.trips).1
        (st_k0_t1 (F := Ideal) Variants.none c none i a1 h1 a2 h2 a3 h3 a4 h4 a5 h5 a6 h6 a7 h7 a8 h8 a9 h9 a10 h10 a11 h11 a12 h12 a13 h13 a14 h14 (h1.unread x0) (k0_pay15, k0_pay16) k0_t1_loop.trips).2
        (View.ld x1 (Rect.unit ![0, 0] ![1, 128] inb_S9x128_S1x128_0_0)) (View.ld x1 (Rect.unit ![1, 0] ![8, 128] inb_S9x128_S8x128_1_0))
        x2 x3 x4 x5 x6 x7 x8 x9 x10 x11 x12 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 x0 x1 x2 x3 x4 x5 x6 x7 x8 x9 x10 x11 x12)]
  unfold kernelRun0_A
  dsimp only
  sl_unfold_words
  rw [View.canon_unit_zero zeros3]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S1x128) zeros2, View.ld_unit_zero (S := S1152x1024) zeros2, View.ld_unit_zero (S := S1x1024) zeros2,
    View.ld_unit_zero (S := S1024x256) zeros2, View.ld_unit_zero (S := S1x256) zeros2]
  rfl

end Cert.Hen
-- ==== Proof.Facts.lean ====
module

public import proofs.«01_k».proof.Proof.Consts

@[expose] public section

noncomputable section

open Idealize.ShloMosaic

namespace Cert.Hen

/-- A word clamped between zero and `n - 1` is one of the `n` bins. -/
theorem clamped (n : ℕ) (hn : 0 < n) (hn' : n ≤ 64) (z : BitVec 32) :
    ∃ p : Fin n, IntOp.minsi (BitVec.ofNat 32 (n - 1)) (IntOp.maxsi 0#32 z) = BitVec.ofNat 32 p.val := by
  have hz : IntOp.maxsi 0#32 z = if z.slt 0#32 then 0#32 else z := rfl
  by_cases h : z.slt 0#32 = true
  · refine ⟨⟨0, hn⟩, ?_⟩
    rw [hz, if_pos h]
    unfold IntOp.minsi
    split
    · rename_i h2
      have hm : (BitVec.ofNat 32 (n - 1)).toInt = ((n - 1 : ℕ) : ℤ) := by
        rw [BitVec.toInt_eq_toNat_of_lt (by rw [BitVec.toNat_ofNat]; omega), BitVec.toNat_ofNat, Nat.mod_eq_of_lt (by omega)]
      rw [BitVec.slt, decide_eq_true_eq, hm] at h2
      have : (0#32 : BitVec 32).toInt = 0 := by decide
      omega
    · rfl
  · rw [hz, if_neg h]
    unfold IntOp.minsi
    by_cases h2 : (BitVec.ofNat 32 (n - 1)).slt z = true
    · exact ⟨⟨n - 1, by omega⟩, if_pos h2⟩
    · refine ⟨⟨z.toNat, ?_⟩, ?_⟩
      · have hm : (BitVec.ofNat 32 (n - 1)).toInt = ((n - 1 : ℕ) : ℤ) := by
          rw [BitVec.toInt_eq_toNat_of_lt (by rw [BitVec.toNat_ofNat]; omega), BitVec.toNat_ofNat, Nat.mod_eq_of_lt (by omega)]
        rw [BitVec.slt, decide_eq_true_eq, hm] at h2
        rw [BitVec.slt, decide_eq_true_eq] at h
        have h0 : (0#32 : BitVec 32).toInt = 0 := by decide
        rw [h0] at h
        have := BitVec.toInt_eq_toNat_cond z
        have hlt := z.isLt
        split at this <;> omega
      · rw [if_neg h2]
        exact (BitVec.eq_of_toNat_eq (by rw [BitVec.toNat_ofNat]; exact Nat.mod_eq_of_lt z.isLt)).symm

/-- The bin of an a or b value is one of the 64. -/
theorem bin_a (a : EReal) : ∃ p : Fin 64, binAB a = BitVec.ofNat 32 p.val := clamped 64 (by omega) (by omega) _
/-- The bin of a lightness value is one of the 8. -/
theorem bin_l (a : EReal) : ∃ p : Fin 8, binL a = BitVec.ofNat 32 p.val := clamped 8 (by omega) (by omega) _

/-- A marked count is a natural number. -/
theorem term_nat (P : Prop) [Decidable P] (c : BitVec 1) : ∃ n : ℕ, (if P then ind c else 0 : EReal) = ((n : ℝ) : EReal) ∧ (P → c = 1#1 → 1 ≤ n) := by
  by_cases h : P
  · by_cases hc : c = 1#1
    · exact ⟨1, by rw [if_pos h, ind, if_pos hc]; simp, fun _ _ => le_refl 1⟩
    · exact ⟨0, by rw [if_pos h, ind, if_neg hc]; simp, fun _ h' => absurd h' hc⟩
  · exact ⟨0, by rw [if_neg h]; simp, fun h' => absurd h' h⟩

/-- A sum of natural numbers is one. -/
theorem sum_nat {ι : Type} [Fintype ι] (f : ι → ℕ) : (∑ i, ((f i : ℝ) : EReal)) = (((∑ i, f i : ℕ) : ℝ) : EReal) := by
  classical
  have h : ∀ s : Finset ι, (∑ i ∈ s, ((f i : ℝ) : EReal)) = (((∑ i ∈ s, f i : ℕ) : ℝ) : EReal) := fun s => by
    induction s using Finset.induction_on with
    | empty => simp
    | insert a s ha ih => rw [Finset.sum_insert ha, Finset.sum_insert ha, ih, ← EReal.coe_add, Nat.cast_add]
  exact h Finset.univ

/-- Natural counts divided by their positive total are real and lie between zero and one. -/
theorem share {ι : Type} [Fintype ι] (f : ι → ℕ) (hp : ∃ i, 1 ≤ f i) :
    ∃ r : ι → ℝ, (∀ i, 0 ≤ r i) ∧ (∀ i, r i ≤ 1) ∧
      ∀ i, Ideal.div ((f i : ℝ) : EReal) (∑ j, ((f j : ℝ) : EReal)) = ((r i : ℝ) : EReal) := by
  obtain ⟨i0, h0⟩ := hp
  have hle : ∀ i, f i ≤ ∑ j, f j := fun i => Finset.single_le_sum (fun _ _ => Nat.zero_le _) (Finset.mem_univ i)
  have hN : (0 : ℝ) < ((∑ j, f j : ℕ) : ℝ) := by exact_mod_cast lt_of_lt_of_le h0 (hle i0)
  refine ⟨fun i => (f i : ℝ) * (1 / ((∑ j, f j : ℕ) : ℝ)), fun i => by positivity, fun i => ?_, fun i => ?_⟩
  · show (f i : ℝ) * (1 / ((∑ j, f j : ℕ) : ℝ)) ≤ 1
    rw [mul_one_div, div_le_one hN]
    exact_mod_cast hle i
  · rw [sum_nat, Ideal.div_coe (ne_of_gt hN), EReal.coe_mul]

/-- The a/b histogram of an image with a counted pixel: real, between zero and one. -/
theorem hAB_real (img : Fin 3 → Fin 512 → Fin 512 → EReal) (h : ∃ y x, okAB (img 1 y x) (img 2 y x) = 1#1) :
    ∃ r : Fin 64 → Fin 64 → ℝ, (∀ p q, 0 ≤ r p q) ∧ (∀ p q, r p q ≤ 1) ∧ hAB img = fun p q => ((r p q : ℝ) : EReal) := by
  choose t ht ht' using fun (p q : Fin 64) (y x : Fin 512) =>
    term_nat (binAB (img 2 y x) = BitVec.ofNat 32 p.val ∧ binAB (img 1 y x) = BitVec.ofNat 32 q.val) (okAB (img 1 y x) (img 2 y x))
  have hc : ∀ p q, cntAB img p q = (((∑ y, ∑ x, t p q y x : ℕ) : ℝ) : EReal) := fun p q => by
    rw [← sum_nat]
    refine Finset.sum_congr rfl fun y _ => ?_
    rw [← sum_nat]
    exact Finset.sum_congr rfl fun x _ => ht p q y x
  obtain ⟨y, x, hyx⟩ := h
  obtain ⟨p0, hp0⟩ := bin_a (img 2 y x)
  obtain ⟨q0, hq0⟩ := bin_a (img 1 y x)
  obtain ⟨r, h0, h1, hr⟩ := share (fun pq : Fin 64 × Fin 64 => ∑ y, ∑ x, t pq.1 pq.2 y x) ⟨(p0, q0), by
    refine le_trans (ht' p0 q0 y x ⟨hp0, hq0⟩ hyx) ?_
    refine le_trans (Finset.single_le_sum (f := fun x => t p0 q0 y x) (fun _ _ => Nat.zero_le _) (Finset.mem_univ x)) ?_
    exact Finset.single_le_sum (f := fun y => ∑ x, t p0 q0 y x) (fun _ _ => Nat.zero_le _) (Finset.mem_univ y)⟩
  refine ⟨fun p q => r (p, q), fun p q => h0 _, fun p q => h1 _, funext fun p => funext fun q => ?_⟩
  rw [← hr (p, q), Fintype.sum_prod_type]
  unfold hAB
  rw [hc p q]
  refine congrArg (fun z : EReal => Ideal.div _ z) ?_
  exact Finset.sum_congr rfl fun p' _ => Finset.sum_congr rfl fun q' _ => hc p' q'

/-- A value below plus infinity in size is real. -/
theorem real_of_abs (a : EReal) (h : max a (-a) < ⊤) : ∃ r : ℝ, a = ((r : ℝ) : EReal) := by
  induction a using EReal.rec with
  | bot => exact absurd h (by simp)
  | top => exact absurd h (by simp)
  | coe x => exact ⟨x, rfl⟩

end Cert.Hen

end
-- ==== Proof.KNet.lean ====
module

public import proofs.«01_k».proof.Proof.KBlock
public import proofs.«01_k».proof.Proof.Facts
public import proofs.«01_k».proof.Proof.Pool

@[expose] public section

noncomputable section

open Idealize.ShloMosaic Idealize.ShloMosaic.ValueIdx Cert.KernelIdeal Cert.KernelIdeal.Gen

namespace Cert.Hen

/-- An image, first weights, multipliers and variances for which the scale may be taken out of the sum and the maximum:
    the a/b histogram is not empty, its weights and the normalisation's scales are finite. -/
structure Good (img : Fin 3 → Fin 512 → Fin 512 → EReal) (w1 : Fin 128 → Fin 9 → EReal) (g1 v1 : Fin 128 → EReal) : Prop where
  ab : ∃ y x, okAB (img 1 y x) (img 2 y x) = 1#1
  w : ∀ o, max (w1 o 0) (-(w1 o 0)) < ⊤
  i : ∀ o, max (bnInv (g1 o) (v1 o)) (-(bnInv (g1 o) (v1 o))) < ⊤

/-- The first layer's cell before the second convolution, from the counts and the operands. -/
theorem layer1_cell (img : Fin 3 → Fin 512 → Fin 512 → EReal) (w1 : Fin 128 → Fin 9 → EReal) (g1 b1 m1 v1 : Fin 128 → EReal)
    (hg : Good img w1 g1 v1) (h : FVec Ideal S64x64 .f32) (l : FVec Ideal S1x8 .f32)
    (wa : FVec Ideal S1x128 .f32) (wb : FVec Ideal S8x128 .f32) (g b m v : FVec Ideal S1x128 .f32)
    (eh : ∀ p q, h (ix2 p q) = cntAB img p q) (el : ∀ k, l (ix2 0 k) = cntL img k)
    (ea : ∀ o, wa (ix2 0 o) = w1 o 0) (eb : ∀ (k : Fin 8) o, wb (ix2 k o) = w1 o k.succ)
    (eg : ∀ o, g (ix2 0 o) = g1 o) (ebb : ∀ o, b (ix2 0 o) = b1 o) (em : ∀ o, m (ix2 0 o) = m1 o) (ev : ∀ o, v (ix2 0 o) = v1 o)
    (o : Fin 128) (r c : Fin 33) :
    rect (planeOf h l wa wb g b m v) k0_pay71 (k0_pay72 (F := Ideal) (k0_pay21 (F := Ideal) g v b m)) wNeg (ix3 c r o) =
      layer1 img w1 g1 b1 m1 v1 o r c := by
  obtain ⟨hr, h0, h1, hh⟩ := hAB_real img hg.ab
  obtain ⟨wr, hw⟩ := real_of_abs _ (hg.w o)
  obtain ⟨ir, hi⟩ := real_of_abs _ (hg.i o)
  have hmat : mat (k0_pay19 (F := Ideal) h) = fun p q => ((hr p q : ℝ) : EReal) := by
    rw [← hh]
    funext p q
    refine (pay19_apply h p q).trans ?_
    simp only [eh]
    rfl
  have hs : (∑ k : Fin 8, Ideal.div (l (ix2 0 k)) (∑ k' : Fin 8, l (ix2 0 k')) * wb (ix2 k o)) = ∑ k : Fin 8, hL img k * w1 o k.succ := by
    simp only [el, eb]
    rfl
  have hinv : bnInv (g (ix2 0 o)) (v (ix2 0 o)) = ((ir : ℝ) : EReal) := by rw [eg, ev, hi]
  rw [rect_apply, planeOf, plane_apply, (pay32_apply _ o).1, (pay32_apply _ o).2, pay31_eq, pay30_apply, pay30_apply,
    pay25_apply, pay26_apply, hmat, pay22_apply, hinv, ea, hw, w0_eq]
  have h24 : k0_pay24 (F := Ideal) (k0_pay21 (F := Ideal) g v b m) (k0_pay23 (F := Ideal) l g v wb) (ix2 0 o)
      = k0_pay23 (F := Ideal) l g v wb (ix2 0 o) + k0_pay21 (F := Ideal) g v b m (ix2 0 o) := rfl
  rw [h24, pay23_apply, hs, hinv, pay21_apply, eg, ebb, em, ev]
  refine (pooled_eq hr wr ir (∑ k : Fin 8, hL img k * w1 o k.succ) (bnShift (g1 o) (b1 o) (m1 o) (v1 o)) h0 h1 wNeg_neg wPos_big r c).trans ?_
  unfold layer1
  rw [hh, hw, hi]

/-- The block a grid point stores is the network of its image. -/
theorem blockOf_apply (img : Fin 3 → Fin 512 → Fin 512 → EReal) (w1 : Fin 128 → Fin 9 → EReal) (g1 b1 m1 v1 : Fin 128 → EReal)
    (w2 : Fin 1024 → Fin 128 → Fin 3 → Fin 3 → EReal) (g2 b2 m2 v2 : Fin 1024 → EReal)
    (wl : Fin 256 → Fin 1024 → EReal) (bl : Fin 256 → EReal)
    (hg : Good img w1 g1 v1) (h : FVec Ideal S64x64 .f32) (l : FVec Ideal S1x8 .f32)
    (wa : FVec Ideal S1x128 .f32) (wb : FVec Ideal S8x128 .f32) (g b m v : FVec Ideal S1x128 .f32)
    (W2 : FVec Ideal S1152x1024 .bf16) (G2 B2 M2 V2 : FVec Ideal S1x1024 .f32)
    (WL : FVec Ideal S1024x256 .f32) (BL : FVec Ideal S1x256 .f32)
    (eh : ∀ p q, h (ix2 p q) = cntAB img p q) (el : ∀ k, l (ix2 0 k) = cntL img k)
    (ea : ∀ o, wa (ix2 0 o) = w1 o 0) (eb : ∀ (k : Fin 8) o, wb (ix2 k o) = w1 o k.succ)
    (eg : ∀ o, g (ix2 0 o) = g1 o) (ebb : ∀ o, b (ix2 0 o) = b1 o) (em : ∀ o, m (ix2 0 o) = m1 o) (ev : ∀ o, v (ix2 0 o) = v1 o)
    (eW : ∀ (di dj : Fin 3) (k : Fin 128) (o : Fin 1024), W2 (ix2 ⟨(di.val * 3 + dj.val) * 128 + k.val, by omega⟩ o) = w2 o k di dj)
    (eG : ∀ o, G2 (ix2 0 o) = g2 o) (eB : ∀ o, B2 (ix2 0 o) = b2 o) (eM : ∀ o, M2 (ix2 0 o) = m2 o) (eV : ∀ o, V2 (ix2 0 o) = v2 o)
    (eL : ∀ k o, WL (ix2 k o) = wl o k) (eBL : ∀ o, BL (ix2 0 o) = bl o) (o : Fin 256) :
    blockOf h l wa wb g b m v W2 G2 B2 M2 V2 WL BL (ix3 0 0 o) = net img w1 g1 b1 m1 v1 w2 g2 b2 m2 v2 wl bl o := by
  unfold blockOf net
  rw [pay1_apply, eBL]
  refine congrArg (fun z : EReal => z + bl o) (Finset.sum_congr rfl fun k _ => ?_)
  rw [eL]
  refine congrArg (fun z : EReal => z * ((1 / 1089 : ℝ) : EReal) * wl o k) ?_
  have hB : k0_pay75 (F := Ideal) B2 = B2 := shapeCast_self _ _
  rw [sum_split (m := 33) (n := 33) (N := 1089) rfl, Finset.sum_comm, hB]
  refine Finset.sum_congr rfl fun r _ => Finset.sum_congr rfl fun c _ => ?_
  rw [pay73_apply, pay74_apply, eG, eV, eB, eM]
  have hc : (fun (k' : Fin 128) (r c : Fin 33) => rect (planeOf h l wa wb g b m v) k0_pay71 (k0_pay72 (F := Ideal) (k0_pay21 (F := Ideal) g v b m))
      wNeg (ix3 c r k')) = layer1 img w1 g1 b1 m1 v1 :=
    funext fun k' => funext fun r => funext fun c =>
      layer1_cell img w1 g1 b1 m1 v1 hg h l wa wb g b m v eh el ea eb eg ebb em ev k' r c
  have hw : (fun (k' : Fin 128) (di dj : Fin 3) => W2 (ix2 ⟨(di.val * 3 + dj.val) * 128 + k'.val, by omega⟩ k)) = w2 k :=
    funext fun k' => funext fun di => funext fun dj => eW di dj k' k
  refine congrArg (fun z : EReal => max (z * bnInv (g2 k) (v2 k) + bnShift (g2 k) (b2 k) (m2 k) (v2 k)) 0) ?_
  exact (congrArg (fun z => conv2 z _ r c) hc).trans (congrArg (fun z => conv2 (layer1 img w1 g1 b1 m1 v1) z r c) hw)

end Cert.Hen

end
-- ==== Proof.Result.lean ====
module

public import proofs.«01_k».proof.Proof.Facts
public import Idealize.ShloMosaic.Lib.Pipeline.Value

@[expose] public section

noncomputable section

open Idealize.ShloMosaic Idealize.ShloMosaic.ValueIdx

namespace Cert.Hen

/-- The arguments of the launch as arrays of extended reals. -/
structure Args where
  x : (⟨2, ![16, 2048]⟩ : Shape).Idx → EReal
  x1 : (⟨4, ![16, 3, 512, 512]⟩ : Shape).Idx → EReal
  w1 : (⟨4, ![128, 9, 1, 1]⟩ : Shape).Idx → EReal
  g1 : (⟨1, ![128]⟩ : Shape).Idx → EReal
  b1 : (⟨1, ![128]⟩ : Shape).Idx → EReal
  m1 : (⟨1, ![128]⟩ : Shape).Idx → EReal
  v1 : (⟨1, ![128]⟩ : Shape).Idx → EReal
  w2 : (⟨4, ![1024, 128, 3, 3]⟩ : Shape).Idx → EReal
  g2 : (⟨1, ![1024]⟩ : Shape).Idx → EReal
  b2 : (⟨1, ![1024]⟩ : Shape).Idx → EReal
  m2 : (⟨1, ![1024]⟩ : Shape).Idx → EReal
  v2 : (⟨1, ![1024]⟩ : Shape).Idx → EReal
  wl : (⟨2, ![256, 1024]⟩ : Shape).Idx → EReal
  bl : (⟨1, ![256]⟩ : Shape).Idx → EReal

namespace Args

variable (a : Args)

/-- Image `n` of the batch. -/
def img (n : Fin 16) (c : Fin 3) (y z : Fin 512) : EReal := a.x1 (ix4 n c y z)
/-- The first layer's weights, channel by channel. -/
def w1f (o : Fin 128) (k : Fin 9) : EReal := a.w1 (ix4 o k 0 0)
/-- The second layer's weights. -/
def w2f (o : Fin 1024) (k : Fin 128) (di dj : Fin 3) : EReal := a.w2 (ix4 o k di dj)
/-- The last layer's weights. -/
def wlf (o : Fin 256) (k : Fin 1024) : EReal := a.wl (ix2 o k)
/-- A vector argument, entry by entry. -/
def row {n : ℕ} (v : (⟨1, ![n]⟩ : Shape).Idx → EReal) (o : Fin n) : EReal := v (ix1 o)

/-- The first layer of image `n`. -/
def first (n : Fin 16) : Fin 128 → Fin 33 → Fin 33 → EReal :=
  layer1 (a.img n) a.w1f (row a.g1) (row a.b1) (row a.m1) (row a.v1)

/-- The network's output `o` on image `n`. -/
def out (n : Fin 16) (o : Fin 256) : EReal :=
  net (a.img n) a.w1f (row a.g1) (row a.b1) (row a.m1) (row a.v1) a.w2f (row a.g2) (row a.b2) (row a.m2) (row a.v2)
    a.wlf (row a.bl) o

/-- The result array: the first argument's columns, then the network's outputs. -/
def result (j : (⟨2, ![16, 2304]⟩ : Shape).Idx) : EReal :=
  if h : (j 1).val < 2048 then a.x (ix2 (n0 := 16) (n1 := 2048) (j 0) ⟨(j 1).val, h⟩)
  else a.out (j 0) ⟨(j 1).val - 2048, by have : (j 1).val < 2304 := (j 1).isLt; omega⟩

end Args

/-- Two arrays side by side make the result. -/
theorem beside (a : Args) (h : (⟨2, ![16, 256]⟩ : Shape).Idx → EReal) (hh : ∀ n o, h (ix2 n o) = a.out n o)
    (hc : Shape.Concatenates [(⟨2, ![16, 2048]⟩ : Shape), ⟨2, ![16, 256]⟩] ⟨2, ![16, 2304]⟩ 1) :
    concatenate (⟨2, ![16, 2304]⟩ : Shape) 1 [⟨⟨2, ![16, 2048]⟩, a.x⟩, ⟨⟨2, ![16, 256]⟩, h⟩] hc = a.result := by
  funext j
  have hj : (j 1).val < 2304 := (j 1).isLt
  unfold Args.result
  by_cases hl : (j 1).val < 2048
  · rw [dif_pos hl]
    exact concatenate_pair_apply_left (t := ⟨2, ![16, 2304]⟩) 1 a.x h hc j rfl (ix2 (n0 := 16) (n1 := 2048) (j 0) ⟨(j 1).val, hl⟩)
      (fun d => match d with | ⟨0, _⟩ => rfl | ⟨1, _⟩ => rfl)
  · rw [dif_neg hl]
    refine Eq.trans ?_ (hh (j 0) ⟨(j 1).val - 2048, by omega⟩)
    exact concatenate_pair_apply_right (t := ⟨2, ![16, 2304]⟩) 1 a.x h hc j rfl rfl
      (ix2 (n0 := 16) (n1 := 256) (j 0) ⟨(j 1).val - 2048, by omega⟩)
      (fun d => match d with
        | ⟨0, _⟩ => fun _ => rfl
        | ⟨1, _⟩ => fun h => absurd rfl h)
      (by show (j 1).val - 2048 + 2048 = (j 1).val; omega)

end Cert.Hen

end
-- ==== Proof.KRead.lean ====
module

public import proofs.«01_k».proof.Proof.KNet
public import proofs.«01_k».proof.Proof.Result
public import Idealize.ShloMosaic.Lib.StableHlo.Run

@[expose] public section

noncomputable section

open Idealize.ShloMosaic Idealize.ShloMosaic.TcCoe Idealize.SL.Sem Idealize.ShloMosaic.ValueIdx Cert.KernelIdeal Cert.KernelIdeal.Gen

namespace Cert.Hen

open Idealize.ShloMosaic.Pipeline (Dat)

variable (m : (ℓ : Loc nD τ sig) → Buf (Elt Ideal) ℓ) (ρ : Dev nD → PrngReg)

/-- The launch's arguments on one device. -/
def args (c : Dev nD) : Args where
  x := m ((c : Thread nD τ).loc main_arg0)
  x1 := m ((c : Thread nD τ).loc main_arg1)
  w1 := m ((c : Thread nD τ).loc main_arg2)
  g1 := m ((c : Thread nD τ).loc main_arg3)
  b1 := m ((c : Thread nD τ).loc main_arg4)
  m1 := m ((c : Thread nD τ).loc main_arg5)
  v1 := m ((c : Thread nD τ).loc main_arg6)
  w2 := m ((c : Thread nD τ).loc main_arg7)
  g2 := m ((c : Thread nD τ).loc main_arg8)
  b2 := m ((c : Thread nD τ).loc main_arg9)
  m2 := m ((c : Thread nD τ).loc main_arg10)
  v2 := m ((c : Thread nD τ).loc main_arg11)
  wl := m ((c : Thread nD τ).loc main_arg12)
  bl := m ((c : Thread nD τ).loc main_arg13)

/-! ## The windows' blocks -/

theorem index0 : ∀ t : Fin cfg0.N, win0_0.index t 0 = t.val ∧ win0_0.index t 1 = 0 ∧ win0_0.index t 2 = 0 ∧ win0_0.index t 3 = 0 := by
  decide +kernel

theorem sixteen : cfg0.N = 16 := N_0

/-- Grid point `t` reads image `t`. -/
theorem image_block (c : Dev nD) (t : Fin cfg0.N) (n : Fin 3) (y x : Fin 512) :
    (iblk (F := Ideal) m c 0 t : Vec Ideal S1x3x512x512 .f32) (ix4 0 n y x) = (args m c).img ⟨t.val, sixteen ▸ t.isLt⟩ n y x := by
  obtain ⟨i0, i1, i2, i3⟩ := index0 t
  unfold iblk
  rw [View.read_apply]
  show V m c main_arg1 _ = m (c.tc.loc main_arg1) _
  rw [V_main_arg1]
  congr 1
  funext a
  apply Fin.ext
  match a with
  | ⟨0, _⟩ => show win0_0.index t 0 * 1 + 1 * 0 = t.val; omega
  | ⟨1, _⟩ => show win0_0.index t 1 * 3 + 1 * n.val = n.val; omega
  | ⟨2, _⟩ => show win0_0.index t 2 * 512 + 1 * y.val = y.val; omega
  | ⟨3, _⟩ => show win0_0.index t 3 * 512 + 1 * x.val = x.val; omega

theorem index1 : ∀ t : Fin cfg0.N, (fun a => win0_1.index t a * main_call0_v1.ty.shape.size a) = fun _ => 0 := by
  intro t
  funext a
  fin_cases a <;> exact Nat.zero_mul _

theorem block1 (c : Dev nD) (t : Fin cfg0.N) : (iblk (F := Ideal) m c 1 t : Vec Ideal S9x128 _) = V m c main_call0_v1 :=
  Memref.read_access_unit_zero (Elt Ideal) main_call0_v1 (index1 t) (fun a => by rw [congrFun (index1 t) a]; simp) _

theorem index2 : ∀ t : Fin cfg0.N, (fun a => win0_2.index t a * main_call0_v6.ty.shape.size a) = fun _ => 0 := by
  intro t
  funext a
  fin_cases a <;> exact Nat.zero_mul _

theorem block2 (c : Dev nD) (t : Fin cfg0.N) : (iblk (F := Ideal) m c 2 t : Vec Ideal S1x128 _) = V m c main_call0_v6 :=
  Memref.read_access_unit_zero (Elt Ideal) main_call0_v6 (index2 t) (fun a => by rw [congrFun (index2 t) a]; simp) _

theorem index3 : ∀ t : Fin cfg0.N, (fun a => win0_3.index t a * main_call0_v7.ty.shape.size a) = fun _ => 0 := by
  intro t
  funext a
  fin_cases a <;> exact Nat.zero_mul _

theorem block3 (c : Dev nD) (t : Fin cfg0.N) : (iblk (F := Ideal) m c 3 t : Vec Ideal S1x128 _) = V m c main_call0_v7 :=
  Memref.read_access_unit_zero (Elt Ideal) main_call0_v7 (index3 t) (fun a => by rw [congrFun (index3 t) a]; simp) _

theorem index4 : ∀ t : Fin cfg0.N, (fun a => win0_4.index t a * main_call0_v8.ty.shape.size a) = fun _ => 0 := by
  intro t
  funext a
  fin_cases a <;> exact Nat.zero_mul _

theorem block4 (c : Dev nD) (t : Fin cfg0.N) : (iblk (F := Ideal) m c 4 t : Vec Ideal S1x128 _) = V m c main_call0_v8 :=
  Memref.read_access_unit_zero (Elt Ideal) main_call0_v8 (index4 t) (fun a => by rw [congrFun (index4 t) a]; simp) _

theorem index5 : ∀ t : Fin cfg0.N, (fun a => win0_5.index t a * main_call0_v9.ty.shape.size a) = fun _ => 0 := by
  intro t
  funext a
  fin_cases a <;> exact Nat.zero_mul _

theorem block5 (c : Dev nD) (t : Fin cfg0.N) : (iblk (F := Ideal) m c 5 t : Vec Ideal S1x128 _) = V m c main_call0_v9 :=
  Memref.read_access_unit_zero (Elt Ideal) main_call0_v9 (index5 t) (fun a => by rw [congrFun (index5 t) a]; simp) _

theorem index6 : ∀ t : Fin cfg0.N, (fun a => win0_6.index t a * main_call0_v4.ty.shape.size a) = fun _ => 0 := by
  intro t
  funext a
  fin_cases a <;> exact Nat.zero_mul _

theorem block6 (c : Dev nD) (t : Fin cfg0.N) : (iblk (F := Ideal) m c 6 t : Vec Ideal S1152x1024 _) = V m c main_call0_v4 :=
  Memref.read_access_unit_zero (Elt Ideal) main_call0_v4 (index6 t) (fun a => by rw [congrFun (index6 t) a]; simp) _

theorem index7 : ∀ t : Fin cfg0.N, (fun a => win0_7.index t a * main_call0_v10.ty.shape.size a) = fun _ => 0 := by
  intro t
  funext a
  fin_cases a <;> exact Nat.zero_mul _

theorem block7 (c : Dev nD) (t : Fin cfg0.N) : (iblk (F := Ideal) m c 7 t : Vec Ideal S1x1024 _) = V m c main_call0_v10 :=
  Memref.read_access_unit_zero (Elt Ideal) main_call0_v10 (index7 t) (fun a => by rw [congrFun (index7 t) a]; simp) _

theorem index8 : ∀ t : Fin cfg0.N, (fun a => win0_8.index t a * main_call0_v11.ty.shape.size a) = fun _ => 0 := by
  intro t
  funext a
  fin_cases a <;> exact Nat.zero_mul _

theorem block8 (c : Dev nD) (t : Fin cfg0.N) : (iblk (F := Ideal) m c 8 t : Vec Ideal S1x1024 _) = V m c main_call0_v11 :=
  Memref.read_access_unit_zero (Elt Ideal) main_call0_v11 (index8 t) (fun a => by rw [congrFun (index8 t) a]; simp) _

theorem index9 : ∀ t : Fin cfg0.N, (fun a => win0_9.index t a * main_call0_v12.ty.shape.size a) = fun _ => 0 := by
  intro t
  funext a
  fin_cases a <;> exact Nat.zero_mul _

theorem block9 (c : Dev nD) (t : Fin cfg0.N) : (iblk (F := Ideal) m c 9 t : Vec Ideal S1x1024 _) = V m c main_call0_v12 :=
  Memref.read_access_unit_zero (Elt Ideal) main_call0_v12 (index9 t) (fun a => by rw [congrFun (index9 t) a]; simp) _

theorem index10 : ∀ t : Fin cfg0.N, (fun a => win0_10.index t a * main_call0_v13.ty.shape.size a) = fun _ => 0 := by
  intro t
  funext a
  fin_cases a <;> exact Nat.zero_mul _

theorem block10 (c : Dev nD) (t : Fin cfg0.N) : (iblk (F := Ideal) m c 10 t : Vec Ideal S1x1024 _) = V m c main_call0_v13 :=
  Memref.read_access_unit_zero (Elt Ideal) main_call0_v13 (index10 t) (fun a => by rw [congrFun (index10 t) a]; simp) _

theorem index11 : ∀ t : Fin cfg0.N, (fun a => win0_11.index t a * main_call0_v5.ty.shape.size a) = fun _ => 0 := by
  intro t
  funext a
  fin_cases a <;> exact Nat.zero_mul _

theorem block11 (c : Dev nD) (t : Fin cfg0.N) : (iblk (F := Ideal) m c 11 t : Vec Ideal S1024x256 _) = V m c main_call0_v5 :=
  Memref.read_access_unit_zero (Elt Ideal) main_call0_v5 (index11 t) (fun a => by rw [congrFun (index11 t) a]; simp) _

theorem index12 : ∀ t : Fin cfg0.N, (fun a => win0_12.index t a * main_call0_v14.ty.shape.size a) = fun _ => 0 := by
  intro t
  funext a
  fin_cases a <;> exact Nat.zero_mul _

theorem block12 (c : Dev nD) (t : Fin cfg0.N) : (iblk (F := Ideal) m c 12 t : Vec Ideal S1x256 _) = V m c main_call0_v14 :=
  Memref.read_access_unit_zero (Elt Ideal) main_call0_v14 (index12 t) (fun a => by rw [congrFun (index12 t) a]; simp) _

theorem entry2 (c : Dev nD) (o : Fin 128) : (V m c main_call0_v6 : FVec Ideal S1x128 .f32) (ix2 0 o) = (args m c).g1 (ix1 o) := by
  have h : (V m c main_call0_v6 : FVec Ideal S1x128 .f32) = shapeCast S1x128 (m ((c : Thread nD τ).loc main_arg3)) shapeCasts_S128_S1x128 := by
    show StableHlo.after (List.flatten [hostOps0]) _ (Proc.devRef .tc main_call0_v6) = _
    simp only [hostOps0, List.flatten_cons, List.flatten_nil, List.append_nil]
    after_results
    rfl
  rw [h]
  exact shapeCast_a_1a_apply _ _ 0 o

theorem entry3 (c : Dev nD) (o : Fin 128) : (V m c main_call0_v7 : FVec Ideal S1x128 .f32) (ix2 0 o) = (args m c).b1 (ix1 o) := by
  have h : (V m c main_call0_v7 : FVec Ideal S1x128 .f32) = shapeCast S1x128 (m ((c : Thread nD τ).loc main_arg4)) shapeCasts_S128_S1x128 := by
    show StableHlo.after (List.flatten [hostOps0]) _ (Proc.devRef .tc main_call0_v7) = _
    simp only [hostOps0, List.flatten_cons, List.flatten_nil, List.append_nil]
    after_results
    rfl
  rw [h]
  exact shapeCast_a_1a_apply _ _ 0 o

theorem entry4 (c : Dev nD) (o : Fin 128) : (V m c main_call0_v8 : FVec Ideal S1x128 .f32) (ix2 0 o) = (args m c).m1 (ix1 o) := by
  have h : (V m c main_call0_v8 : FVec Ideal S1x128 .f32) = shapeCast S1x128 (m ((c : Thread nD τ).loc main_arg5)) shapeCasts_S128_S1x128 := by
    show StableHlo.after (List.flatten [hostOps0]) _ (Proc.devRef .tc main_call0_v8) = _
    simp only [hostOps0, List.flatten_cons, List.flatten_nil, List.append_nil]
    after_results
    rfl
  rw [h]
  exact shapeCast_a_1a_apply _ _ 0 o

theorem entry5 (c : Dev nD) (o : Fin 128) : (V m c main_call0_v9 : FVec Ideal S1x128 .f32) (ix2 0 o) = (args m c).v1 (ix1 o) := by
  have h : (V m c main_call0_v9 : FVec Ideal S1x128 .f32) = shapeCast S1x128 (m ((c : Thread nD τ).loc main_arg6)) shapeCasts_S128_S1x128 := by
    show StableHlo.after (List.flatten [hostOps0]) _ (Proc.devRef .tc main_call0_v9) = _
    simp only [hostOps0, List.flatten_cons, List.flatten_nil, List.append_nil]
    after_results
    rfl
  rw [h]
  exact shapeCast_a_1a_apply _ _ 0 o

theorem entry7 (c : Dev nD) (o : Fin 1024) : (V m c main_call0_v10 : FVec Ideal S1x1024 .f32) (ix2 0 o) = (args m c).g2 (ix1 o) := by
  have h : (V m c main_call0_v10 : FVec Ideal S1x1024 .f32) = shapeCast S1x1024 (m ((c : Thread nD τ).loc main_arg8)) shapeCasts_S1024_S1x1024 := by
    show StableHlo.after (List.flatten [hostOps0]) _ (Proc.devRef .tc main_call0_v10) = _
    simp only [hostOps0, List.flatten_cons, List.flatten_nil, List.append_nil]
    after_results
    rfl
  rw [h]
  exact shapeCast_a_1a_apply _ _ 0 o

theorem entry8 (c : Dev nD) (o : Fin 1024) : (V m c main_call0_v11 : FVec Ideal S1x1024 .f32) (ix2 0 o) = (args m c).b2 (ix1 o) := by
  have h : (V m c main_call0_v11 : FVec Ideal S1x1024 .f32) = shapeCast S1x1024 (m ((c : Thread nD τ).loc main_arg9)) shapeCasts_S1024_S1x1024 := by
    show StableHlo.after (List.flatten [hostOps0]) _ (Proc.devRef .tc main_call0_v11) = _
    simp only [hostOps0, List.flatten_cons, List.flatten_nil, List.append_nil]
    after_results
    rfl
  rw [h]
  exact shapeCast_a_1a_apply _ _ 0 o

theorem entry9 (c : Dev nD) (o : Fin 1024) : (V m c main_call0_v12 : FVec Ideal S1x1024 .f32) (ix2 0 o) = (args m c).m2 (ix1 o) := by
  have h : (V m c main_call0_v12 : FVec Ideal S1x1024 .f32) = shapeCast S1x1024 (m ((c : Thread nD τ).loc main_arg10)) shapeCasts_S1024_S1x1024 := by
    show StableHlo.after (List.flatten [hostOps0]) _ (Proc.devRef .tc main_call0_v12) = _
    simp only [hostOps0, List.flatten_cons, List.flatten_nil, List.append_nil]
    after_results
    rfl
  rw [h]
  exact shapeCast_a_1a_apply _ _ 0 o

theorem entry10 (c : Dev nD) (o : Fin 1024) : (V m c main_call0_v13 : FVec Ideal S1x1024 .f32) (ix2 0 o) = (args m c).v2 (ix1 o) := by
  have h : (V m c main_call0_v13 : FVec Ideal S1x1024 .f32) = shapeCast S1x1024 (m ((c : Thread nD τ).loc main_arg11)) shapeCasts_S1024_S1x1024 := by
    show StableHlo.after (List.flatten [hostOps0]) _ (Proc.devRef .tc main_call0_v13) = _
    simp only [hostOps0, List.flatten_cons, List.flatten_nil, List.append_nil]
    after_results
    rfl
  rw [h]
  exact shapeCast_a_1a_apply _ _ 0 o

theorem entry12 (c : Dev nD) (o : Fin 256) : (V m c main_call0_v14 : FVec Ideal S1x256 .f32) (ix2 0 o) = (args m c).bl (ix1 o) := by
  have h : (V m c main_call0_v14 : FVec Ideal S1x256 .f32) = shapeCast S1x256 (m ((c : Thread nD τ).loc main_arg13)) shapeCasts_S256_S1x256 := by
    show StableHlo.after (List.flatten [hostOps0]) _ (Proc.devRef .tc main_call0_v14) = _
    simp only [hostOps0, List.flatten_cons, List.flatten_nil, List.append_nil]
    after_results
    rfl
  rw [h]
  exact shapeCast_a_1a_apply _ _ 0 o

theorem entry1 (c : Dev nD) (k : Fin 9) (o : Fin 128) : (V m c main_call0_v1 : FVec Ideal S9x128 .f32) (ix2 k o) = (args m c).w1f o k := by
  have h : (V m c main_call0_v1 : FVec Ideal S9x128 .f32) = transpose S9x128 [1, 0]
      (shapeCast S128x9 (m ((c : Thread nD τ).loc main_arg2)) shapeCasts_S128x9x1x1_S128x9) transposes_S128x9_S9x128_1_0 := by
    show StableHlo.after (List.flatten [hostOps0]) _ (Proc.devRef .tc main_call0_v1) = _
    simp only [hostOps0, List.flatten_cons, List.flatten_nil, List.append_nil]
    after_results
    rfl
  rw [h]
  refine (transpose_ix2_apply _ _ k o).trans ?_
  refine shapeCast_apply _ _ (ix2 o k) (ix4 o k 0 0) ?_
  rw [Shape.rowMajor_val_four, Shape.rowMajor_val_two]
  show ((o.val * 9 + k.val) * 1 + 0) * 1 + 0 = o.val * 9 + k.val
  omega

theorem entry11 (c : Dev nD) (k : Fin 1024) (o : Fin 256) : (V m c main_call0_v5 : FVec Ideal S1024x256 .f32) (ix2 k o) = (args m c).wlf o k := by
  have h : (V m c main_call0_v5 : FVec Ideal S1024x256 .f32) = transpose S1024x256 [1, 0]
      (m ((c : Thread nD τ).loc main_arg12)) transposes_S256x1024_S1024x256_1_0 := by
    show StableHlo.after (List.flatten [hostOps0]) _ (Proc.devRef .tc main_call0_v5) = _
    simp only [hostOps0, List.flatten_cons, List.flatten_nil, List.append_nil]
    after_results
    rfl
  rw [h]
  exact transpose_ix2_apply _ _ k o

theorem tap_entry (w : FVec Ideal S1024x128x3x3 .f32) (di dj : Fin 3) (k : Fin 128) (o : Fin 1024) :
    shapeCast S1152x1024 (transpose S3x3x128x1024 [2, 3, 1, 0] w transposes_S1024x128x3x3_S3x3x128x1024_2_3_1_0) shapeCasts_S3x3x128x1024_S1152x1024
      (ix2 (n0 := 1152) (n1 := 1024) ⟨(di.val * 3 + dj.val) * 128 + k.val, by omega⟩ o) = w (ix4 o k di dj) := by
  generalize hz : transpose S3x3x128x1024 [2, 3, 1, 0] w transposes_S1024x128x3x3_S3x3x128x1024_2_3_1_0 = z
  refine (shapeCast_apply z _ _ (ix4 di dj k o) ?_).trans ?_
  · rw [Shape.rowMajor_val_four, Shape.rowMajor_val_two]
    show ((di.val * 3 + dj.val) * 128 + k.val) * 1024 + o.val = ((di.val * 3 + dj.val) * 128 + k.val) * 1024 + o.val
    rfl
  · subst hz
    exact transpose_apply _ _ _ (ix4 di dj k o) (ix4 o k di dj) (fun d => match d with
      | ⟨0, _⟩ => rfl
      | ⟨1, _⟩ => rfl
      | ⟨2, _⟩ => rfl
      | ⟨3, _⟩ => rfl)

theorem entry6 (c : Dev nD) (di dj : Fin 3) (k : Fin 128) (o : Fin 1024) :
    (V m c main_call0_v4 : FVec Ideal S1152x1024 .bf16) (ix2 ⟨(di.val * 3 + dj.val) * 128 + k.val, by omega⟩ o) = (args m c).w2f o k di dj := by
  have h : (V m c main_call0_v4 : FVec Ideal S1152x1024 .bf16) = truncf (F := Ideal) .bf16 (shapeCast S1152x1024 (transpose S3x3x128x1024 [2, 3, 1, 0]
      (m ((c : Thread nD τ).loc main_arg7)) transposes_S1024x128x3x3_S3x3x128x1024_2_3_1_0) shapeCasts_S3x3x128x1024_S1152x1024) bitsLt_bf16_f32 := by
    show StableHlo.after (List.flatten [hostOps0]) _ (Proc.devRef .tc main_call0_v4) = _
    simp only [hostOps0, List.flatten_cons, List.flatten_nil, List.append_nil]
    after_results
    rfl
  rw [h]
  exact tap_entry _ di dj k o
end Cert.Hen
-- ==== Proof.KValue.lean ====
module

public import proofs.«01_k».proof.Proof.KRead
public import Idealize.ShloMosaic.Lib.Pipeline.Frame

@[expose] public section

noncomputable section

open Idealize.ShloMosaic Idealize.ShloMosaic.TcCoe Idealize.SL.Sem Idealize.ShloMosaic.ValueIdx Cert.KernelIdeal Cert.KernelIdeal.Gen

namespace Cert.Hen

variable (m : (ℓ : Loc nD τ sig) → Buf (Elt Ideal) ℓ) (ρ : Dev nD → PrngReg)

/-- What the kernel's value needs of the arguments, for every image. -/
def Args.Sound (a : Args) : Prop := ∀ n, Good (a.img n) a.w1f (Args.row a.g1) (Args.row a.v1)

theorem zeros_start : (∀ p q, (k0_pay15 (F := Ideal)) (ix2 p q) = 0) ∧ ∀ p, (k0_pay16 (F := Ideal)) (ix2 0 p) = 0 :=
  ⟨fun _ _ => Ideal.ofBits_zero_f32, fun _ => Ideal.ofBits_zero_f32⟩

/-- The row of the first layer's weights that the merged histogram meets. -/
theorem row_first (x : Vec Ideal S9x128 .f32) (o : Fin 128) :
    (View.ld x (Rect.unit ![0, 0] ![1, 128] inb_S9x128_S1x128_0_0) : Vec Ideal S1x128 .f32) (ix2 0 o) = x (ix2 0 o) := by
  refine congrArg x (funext fun a => Fin.ext ?_)
  match a with
  | ⟨0, _⟩ => rfl
  | ⟨1, _⟩ => show 0 + 1 * o.val = o.val; omega

/-- The rows that the eight lightness channels meet. -/
theorem row_rest (x : Vec Ideal S9x128 .f32) (k : Fin 8) (o : Fin 128) :
    (View.ld x (Rect.unit ![1, 0] ![8, 128] inb_S9x128_S8x128_1_0) : Vec Ideal S8x128 .f32) (ix2 k o) = x (ix2 k.succ o) := by
  refine congrArg x (funext fun a => Fin.ext ?_)
  match a with
  | ⟨0, _⟩ => show 1 + 1 * k.val = k.val + 1; omega
  | ⟨1, _⟩ => show 0 + 1 * o.val = o.val; omega

/-- Grid point `t` leaves the network's output on image `t`. -/
theorem point_value (c : Dev nD) (hs : (args m c).Sound) (t : Fin cfg0.N) (i : S1x1x256.Idx) :
    outsAt0 m c t i = (args m c).out ⟨t.val, sixteen ▸ t.isLt⟩ (i 2) := by
  have hi : i = ix3 (n0 := 1) (n1 := 1) (n2 := 256) 0 0 (i 2) := by
    funext a
    match a with
    | ⟨0, _⟩ => exact Fin.ext (by have : (i 0).val < 1 := (i 0).isLt; show (i 0).val = 0; omega)
    | ⟨1, _⟩ => exact Fin.ext (by have : (i 1).val < 1 := (i 1).isLt; show (i 1).val = 0; omega)
    | ⟨2, _⟩ => rfl
  rw [hi]
  unfold outsAt0
  rw [out_eq]
  obtain ⟨ha, hb⟩ := loop_counts c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (iblk m c 0 t)
    ((args m c).img ⟨t.val, sixteen ▸ t.isLt⟩) (image_block m c t) (k0_pay15, k0_pay16) zeros_start
  exact blockOf_apply _ (args m c).w1f (Args.row (args m c).g1) (Args.row (args m c).b1) (Args.row (args m c).m1) (Args.row (args m c).v1)
    (args m c).w2f (Args.row (args m c).g2) (Args.row (args m c).b2) (Args.row (args m c).m2) (Args.row (args m c).v2)
    (args m c).wlf (Args.row (args m c).bl) (hs _) _ _ _ _ _ _ _ _ _ _ _ _ _ _ _ ha hb
    (fun o => (row_first _ o).trans ((congrFun (block1 m c t) _).trans (entry1 m c 0 o)))
    (fun k o => (row_rest _ k o).trans ((congrFun (block1 m c t) _).trans (entry1 m c k.succ o)))
    (fun o => (congrFun (block2 m c t) _).trans (entry2 m c o))
    (fun o => (congrFun (block3 m c t) _).trans (entry3 m c o))
    (fun o => (congrFun (block4 m c t) _).trans (entry4 m c o))
    (fun o => (congrFun (block5 m c t) _).trans (entry5 m c o))
    (fun di dj k o => (congrFun (block6 m c t) _).trans (entry6 m c di dj k o))
    (fun o => (congrFun (block7 m c t) _).trans (entry7 m c o))
    (fun o => (congrFun (block8 m c t) _).trans (entry8 m c o))
    (fun o => (congrFun (block9 m c t) _).trans (entry9 m c o))
    (fun o => (congrFun (block10 m c t) _).trans (entry10 m c o))
    (fun k o => (congrFun (block11 m c t) _).trans (entry11 m c k o))
    (fun o => (congrFun (block12 m c t) _).trans (entry12 m c o)) _

/-- The outputs' array: image by image, the network's outputs. -/
def outs (c : Dev nD) : Buf (Elt Ideal) ((c : Thread nD τ).loc main_call0_v15) :=
  fun i : S16x1x256.Idx => (args m c).out (i 0) (i 2)

theorem outs_edges : ∀ t : Fin cfg0.N, win0_13.index t 0 * win0_13.size 0 = t.val ∧ win0_13.xsize (grid0.coords t) 0 = 1
    ∧ win0_13.index t 1 * win0_13.size 1 = 0 ∧ win0_13.xsize (grid0.coords t) 1 = 1
    ∧ win0_13.index t 2 * win0_13.size 2 = 0 ∧ win0_13.xsize (grid0.coords t) 2 = 256 := by
  decide +kernel

/-- What grid point `t` writes back is block `t` of the outputs' array. -/
theorem flushed_outs (c : Dev nD) (hs : (args m c).Sound) (t : Fin cfg0.N) :
    (dats m 0 c).flushed 13 t = (win0_13.blk t).view.read (Elt Ideal) (outs m c) := by
  obtain ⟨e0, x0, e1, x1, e2, x2⟩ := outs_edges t
  show (cfg0.win 13).cut (grid0.coords t) ((dats m 0 c).after 13 t) = _
  rw [after0_13]
  funext j
  rw [View.read_apply]
  refine (point_value m c hs t _).trans ?_
  have h0 : (j 0).val < win0_13.xsize (grid0.coords t) 0 := (j 0).isLt
  rw [x0] at h0
  refine congrArg₂ (args m c).out (Fin.ext ?_) (Fin.ext ?_)
  · show t.val = win0_13.index t 0 * win0_13.size 0 + 1 * (j 0).val
    omega
  · show (j 2).val = win0_13.index t 2 * win0_13.size 2 + 1 * (j 2).val
    omega

theorem mem_outs (t : Fin cfg0.N) (i : S16x1x256.Idx) (h : (i 0).val = t.val) : i ∈ ((cfg0.win 13).blk t).view.set := by
  obtain ⟨e0, x0, e1, x1, e2, x2⟩ := outs_edges t
  show i ∈ ((View.whole main_call0_v15).slice (win0_13.rect t)).set
  rw [View.set_slice_whole, Rect.mem_set_unit]
  have h1 : (i 1).val < 1 := (i 1).isLt
  have h2 : (i 2).val < 256 := (i 2).isLt
  intro a
  match a with
  | ⟨0, _⟩ =>
    show win0_13.index t 0 * win0_13.size 0 ≤ (i 0).val ∧ (i 0).val < win0_13.index t 0 * win0_13.size 0 + win0_13.xsize (grid0.coords t) 0
    omega
  | ⟨1, _⟩ =>
    show win0_13.index t 1 * win0_13.size 1 ≤ (i 1).val ∧ (i 1).val < win0_13.index t 1 * win0_13.size 1 + win0_13.xsize (grid0.coords t) 1
    omega
  | ⟨2, _⟩ =>
    show win0_13.index t 2 * win0_13.size 2 ≤ (i 2).val ∧ (i 2).val < win0_13.index t 2 * win0_13.size 2 + win0_13.xsize (grid0.coords t) 2
    omega

/-- The outputs' blocks tile their array. -/
theorem cover_outs (i : S16x1x256.Idx) : ∃ t : Fin cfg0.N, (cfg0.win 13).flush t = true ∧ i ∈ ((cfg0.win 13).blk t).view.set :=
  ⟨⟨(i 0).val, sixteen.symm ▸ (i 0).isLt⟩, flush0_13 _, mem_outs _ i rfl⟩

theorem final_outs (c : Dev nD) (hs : (args m c).Sound) : (dats m 0 c).arrAt 13 cfg0.N = outs m c :=
  (dats m 0 c).arrAt_eq_of_cover 13 (outs m c) (fun t _ => flushed_outs m c hs t) cover_outs

/-- The result buffer after the two host operations that follow the region. -/
theorem tail_value (c : Dev nD) (hs : (args m c).Sound) :
    (Pipeline.afterTail₀ cfgs (dats m) 0 (V0 m) [hostOps1] c main_v0 : FVec Ideal S16x2304 .f32) = (args m c).result := by
  have h : (Pipeline.afterTail₀ cfgs (dats m) 0 (V0 m) [hostOps1] c main_v0 : FVec Ideal S16x2304 .f32)
      = concatenate S16x2304 1 [⟨S16x2048, (args m c).x⟩, ⟨S16x256, shapeCast S16x256 (outs m c) shapeCasts_S16x1x256_S16x256⟩]
          concatenates_S16x2048_S16x256_S16x2304_d1 := by
    unfold Pipeline.afterTail₀
    have e15 : Pipeline.withArrays (cfgs 0).spec c (V0 m c) (fun w => (dats m 0 c).arrAt w (cfgs 0).N) (Proc.devRef .tc main_call0_v15) = outs m c :=
      (Pipeline.withArrays_arr spec0 (by decide) c (V0 m c) _ 13).trans (final_outs m c hs)
    have e0 : Pipeline.withArrays (cfgs 0).spec c (V0 m c) (fun w => (dats m 0 c).arrAt w (cfgs 0).N) (Proc.devRef .tc main_arg0)
        = m ((c : Thread nD τ).loc main_arg0) :=
      (Pipeline.withArrays_of_ne _ c (V0 m c) _ main_arg0 (by exact (by decide : ∀ w, Pipeline.arrRef spec0 w ≠ main_arg0))).trans (V_main_arg0 m c)
    generalize Pipeline.withArrays (cfgs 0).spec c (V0 m c) (fun w => (dats m 0 c).arrAt w (cfgs 0).N) = W at e15 e0 ⊢
    simp only [hostOps1, List.flatten_cons, List.flatten_nil, List.append_nil]
    after_results
    rw [e15, e0]
    rfl
  rw [h]
  refine beside (args m c) _ (fun n o => ?_) _
  refine (shapeCast_apply _ _ _ (ix3 n 0 o) ?_).trans rfl
  rw [Shape.rowMajor_val_three, Shape.rowMajor_val_two]
  show (n.val * 1 + 0) * 256 + o.val = n.val * 256 + o.val
  omega

/-- The kernel's run, read: the result array holds the network's result, the arguments are unchanged. -/
theorem kernel_run (hs : ∀ c, (args m c).Sound) :
    θ_run defs (onTc (τ := τ) (main (F := Ideal))) ⟨m, fun _ => 0, ρ⟩ fun r => ∀ c : Dev nD,
      r.2.mem ((c : Thread nD τ).loc main_v0) = (args m c).result :=
  (θ_run defs _ _).mono (fun _ h c => ((h c).2 main_v0 (Pipeline.mem_restRefs_of main_v0 (by decide) (by decide))).trans (tail_value m c (hs c)))
    (run_main m ρ)

end Cert.Hen
-- ==== Proof.RScatter.lean ====
/- Scattered additions read as counts: an update lands in the cell its index word names, and the sum over the flat
   pixels of a batch is the sum over one image's pixels. -/
module

public import proofs.«01_k».proof.Proof.Consts
public import Idealize.ShloMosaic.Lib.Routing.OpsPair

@[expose] public section

noncomputable section

open Idealize.ShloMosaic Idealize.ShloMosaic.ValueIdx

namespace Cert.Hen

/-- A sum over the indices of a vector is a sum over its positions. -/
theorem sum_ix1 {M : Type*} [AddCommMonoid M] {a : ℕ} (f : (⟨1, ![a]⟩ : Shape).Idx → M) : ∑ i, f i = ∑ p : Fin a, f (ix1 p) := by
  let e : Fin a ≃ (⟨1, ![a]⟩ : Shape).Idx :=
    { toFun := fun p => ix1 p
      invFun := fun i => i 0
      left_inv := fun _ => rfl
      right_inv := fun i => (eq_ix1 i).symm }
  exact (Equiv.sum_comp e f).symm

/-- Where one scalar update of a scatter into a vector lands: at the cell its index word, read signed, names. -/
theorem lands_at {N M : ℕ} (d : ScatterDims (⟨1, ![M]⟩ : Shape) ⟨2, ![N, 1]⟩ ⟨1, ![N]⟩) (h1 : d.insertedWindowDims = [0])
    (h2 : d.scatterDimsToOperandDims = [0]) (h3 : d.indexVectorDim = 1) (idx : IVec (⟨2, ![N, 1]⟩ : Shape) 32) (i : Fin N) (e : Fin M) :
    d.resultIdx? (ix1 i) idx = some (ix1 e) ↔ (idx (ix2 i (0 : Fin 1))).toInt = (e.val : Int) := by
  have hm : (0 : Fin 1) ∈ d.scatterDimsToOperandDims := h2 ▸ List.mem_singleton.2 rfl
  have hw : d.window (ix1 i) 0 = 0 := by
    unfold ScatterDims.window
    refine dif_neg fun h => ?_
    have hn : (0 : Fin 1) ∉ d.insertedWindowDims := of_decide_eq_true (List.mem_filter.1 h).2
    exact hn (h1 ▸ List.mem_singleton.2 rfl)
  have hk : d.siIdx (ix1 i) ⟨d.scatterDimsToOperandDims.idxOf 0, List.idxOf_lt_length_iff.2 hm⟩ = ix2 i (0 : Fin 1) := by
    funext b
    refine Fin.ext ?_
    unfold ScatterDims.siIdx
    match b with
    | ⟨0, _⟩ =>
      rw [dif_neg (by rw [h3]; exact Nat.zero_ne_one)]
      unfold ScatterDims.siCoord
      have hz : ∀ X : Fin 1, (ix1 i X).val = i.val := fun X => by rw [Subsingleton.elim X 0]
      exact hz _
    | ⟨1, _⟩ =>
      rw [dif_pos (by rw [h3])]
      show List.idxOf (0 : Fin 1) d.scatterDimsToOperandDims = 0
      rw [h2]
      rfl
  have hs : d.start (ix1 i) idx 0 = (idx (ix2 i (0 : Fin 1))).toInt := by
    unfold ScatterDims.start
    rw [dif_pos hm, hk]
  refine (Routing.resultIdx?_ix1 d (ix1 i) idx e).trans ?_
  rw [hs, hw]
  simp

/-- A word below two to the thirty-first, read signed. -/
theorem word_signed (n : ℕ) (h : n < 2 ^ 31) : (BitVec.ofNat 32 n).toInt = (n : Int) := by
  rw [BitVec.toInt_eq_toNat_cond, BitVec.toNat_ofNat, Nat.mod_eq_of_lt (by omega), if_pos (by omega)]

/-- The flat position of pixel (y, x) of image `n`. -/
def flat (n : Fin 16) (y x : Fin 512) : Fin 4194304 := ⟨n.val * 262144 + (y.val * 512 + x.val), by omega⟩

/-- A scatter that sends pixel (y, x) of image `n` to cell `n K + cell` leaves, in image `n`'s cell `e`, the sum over
    that image's pixels of the updates whose cell is `e`. -/
theorem scatter_cells {M : ℕ} (d : ScatterDims (⟨1, ![M]⟩ : Shape) ⟨2, ![4194304, 1]⟩ ⟨1, ![4194304]⟩)
    (h1 : d.insertedWindowDims = [0]) (h2 : d.scatterDimsToOperandDims = [0]) (h3 : d.indexVectorDim = 1)
    (z : (⟨1, ![M]⟩ : Shape).Idx → EReal) (hz : ∀ i, z i = 0) (idx : IVec (⟨2, ![4194304, 1]⟩ : Shape) 32)
    (upd : (⟨1, ![4194304]⟩ : Shape).Idx → EReal) (K : ℕ) (hM : 16 * K = M) (hM' : M < 2 ^ 31)
    (cell : Fin 16 → Fin 512 → Fin 512 → ℕ) (hc : ∀ n y x, cell n y x < K) (w : Fin 16 → Fin 512 → Fin 512 → EReal)
    (hi : ∀ n y x, idx (ix2 (flat n y x) (0 : Fin 1)) = BitVec.ofNat 32 (n.val * K + cell n y x))
    (hu : ∀ n y x, upd (ix1 (flat n y x)) = w n y x) (n : Fin 16) (e : ℕ) (he : e < K) (ι : Fin M) (hι : ι.val = n.val * K + e) :
    Ideal.hostScatterAdd d z idx upd (ix1 ι) = ∑ y, ∑ x, if cell n y x = e then w n y x else 0 := by
  unfold Ideal.hostScatterAdd
  rw [hz, zero_add, Finset.sum_filter, sum_ix1]
  have hp : ∀ m y x, (if d.resultIdx? (ix1 (flat m y x)) idx = some (ix1 ι) then upd (ix1 (flat m y x)) else 0)
      = if m = n then (if cell n y x = e then w n y x else 0) else 0 := by
    intro m y x
    have hl := lands_at d h1 h2 h3 idx (flat m y x) ι
    have hcm := hc m y x
    have hb : m.val * K + cell m y x < M := by
      rw [← hM]
      calc m.val * K + cell m y x < m.val * K + K := by omega
        _ = (m.val + 1) * K := by ring
        _ ≤ 16 * K := Nat.mul_le_mul_right K (by omega)
    rw [hi, word_signed _ (by omega), hι] at hl
    have hq : ((m.val * K + cell m y x : ℕ) : Int) = ((n.val * K + e : ℕ) : Int) ↔ m = n ∧ cell m y x = e := by
      constructor
      · intro h
        have h' : m.val * K + cell m y x = n.val * K + e := by exact_mod_cast h
        have hmod : (m.val * K + cell m y x) % K = (n.val * K + e) % K := by rw [h']
        rw [Nat.mul_comm m.val, Nat.mul_comm n.val, Nat.mul_add_mod, Nat.mul_add_mod, Nat.mod_eq_of_lt hcm, Nat.mod_eq_of_lt he] at hmod
        refine ⟨Fin.ext ?_, hmod⟩
        rw [hmod] at h'
        exact Nat.eq_of_mul_eq_mul_right (by omega : 0 < K) (by omega)
      · rintro ⟨rfl, rfl⟩
        rfl
    have hiff := hl.trans hq
    rw [hu]
    by_cases hmn : m = n
    · subst hmn
      rw [if_pos rfl]
      exact if_congr (hiff.trans (by simp)) rfl rfl
    · rw [if_neg hmn, if_neg fun h => hmn (hiff.1 h).1]
  rw [sum_split (m := 16) (n := 262144) (N := 4194304) rfl, Finset.sum_eq_single n]
  · rw [sum_split (m := 512) (n := 512) (N := 262144) rfl]
    refine Finset.sum_congr rfl fun y _ => Finset.sum_congr rfl fun x _ => ?_
    exact (hp n y x).trans (if_pos rfl)
  · intro m _ hm
    rw [sum_split (m := 512) (n := 512) (N := 262144) rfl]
    refine Finset.sum_eq_zero fun y _ => Finset.sum_eq_zero fun x _ => ?_
    exact (hp m y x).trans (if_neg hm)
  · intro h
    exact absurd (Finset.mem_univ n) h

end Cert.Hen

end
-- ==== Proof.RHist.lean ====
/- The reference's two histograms: its scattered counts are the counts of the specification, its quotients the
   histograms of the specification. -/
module

public import proofs.«01_k».proof.Proof.RScatter
public import proofs.«01_k».proof.Proof.Facts
public import proofs.«01_k».proof.Proof.Gen.ReferenceIdeal.Read

@[expose] public section

noncomputable section

open Idealize.ShloMosaic Idealize.ShloMosaic.ValueIdx Cert.ReferenceIdeal Cert.ReferenceIdeal.Gen Cert.ReferenceIdeal.Read

namespace Cert.Hen

/-- Image `n` of a batch. -/
def image (x1 : FVec Ideal S16x3x512x512 .f32) (n : Fin 16) (c : Fin 3) (y x : Fin 512) : EReal := x1 (ix4 n c y x)

variable (x1 : FVec Ideal S16x3x512x512 .f32)

/-- Pixel (y, x) of image `n` among the flattened images. -/
def spot (n : Fin 16) (y x : Fin 512) : S16x262144.Idx := ix2 (n0 := 16) (n1 := 262144) n ⟨y.val * 512 + x.val, by omega⟩

theorem spot_flat (n : Fin 16) (y x : Fin 512) : idx_main_v51 (ix1 (flat n y x)) = spot n y x := by
  funext a
  refine Fin.ext ?_
  match a with
  | ⟨0, _⟩ => show (n.val * 262144 + (y.val * 512 + x.val)) / 262144 = n.val; omega
  | ⟨1, _⟩ => show (n.val * 262144 + (y.val * 512 + x.val)) % 262144 = y.val * 512 + x.val; omega

theorem spot_rows (n : Fin 16) (y x : Fin 512) : idx_main_v2 (spot n y x) = ix3 n y x := by
  funext a
  refine Fin.ext ?_
  match a with
  | ⟨0, _⟩ => show (n.val * 262144 + (y.val * 512 + x.val)) / 262144 = n.val; omega
  | ⟨1, _⟩ => show (n.val * 262144 + (y.val * 512 + x.val)) / 512 % 512 = y.val; omega
  | ⟨2, _⟩ => show (n.val * 262144 + (y.val * 512 + x.val)) % 512 = x.val; omega

theorem spot_plane (n : Fin 16) (y x : Fin 512) : idx_main_v1 (ix3 n y x) = ix4 n 0 y x := by
  funext a
  refine Fin.ext ?_
  match a with
  | ⟨0, _⟩ => show ((n.val * 512 + y.val) * 512 + x.val) / 262144 = n.val; omega
  | ⟨1, _⟩ => rfl
  | ⟨2, _⟩ => show ((n.val * 512 + y.val) * 512 + x.val) / 512 % 512 = y.val; omega
  | ⟨3, _⟩ => show ((n.val * 512 + y.val) * 512 + x.val) % 512 = x.val; omega

/-- The flattened first colour channel at a pixel. -/
theorem chan_a (n : Fin 16) (y x : Fin 512) : val_main_v2 (F := Ideal) x1 (spot n y x) = image x1 n 1 y x := by
  rw [val_main_v2_apply, spot_rows, val_main_v1_apply, spot_plane, val_main_v0_apply]
  refine congrArg x1 (funext fun a => Fin.ext ?_)
  match a with
  | ⟨0, _⟩ => rfl
  | ⟨1, _⟩ => rfl
  | ⟨2, _⟩ => rfl
  | ⟨3, _⟩ => rfl

/-- The flattened second colour channel at a pixel. -/
theorem chan_b (n : Fin 16) (y x : Fin 512) : val_main_v5 (F := Ideal) x1 (spot n y x) = image x1 n 2 y x := by
  rw [val_main_v5_apply, show idx_main_v5 (spot n y x) = ix3 n y x from spot_rows n y x, val_main_v4_apply,
    show idx_main_v4 (ix3 n y x) = ix4 n 0 y x from spot_plane n y x, val_main_v3_apply]
  refine congrArg x1 (funext fun a => Fin.ext ?_)
  match a with
  | ⟨0, _⟩ => rfl
  | ⟨1, _⟩ => rfl
  | ⟨2, _⟩ => rfl
  | ⟨3, _⟩ => rfl

/-- The flattened lightness channel at a pixel. -/
theorem chan_l (n : Fin 16) (y x : Fin 512) : val_main_v65 (F := Ideal) x1 (spot n y x) = image x1 n 0 y x := by
  rw [val_main_v65_apply, show idx_main_v65 (spot n y x) = ix3 n y x from spot_rows n y x, val_main_v64_apply,
    show idx_main_v64 (ix3 n y x) = ix4 n 0 y x from spot_plane n y x, val_main_v63_apply]
  refine congrArg x1 (funext fun a => Fin.ext ?_)
  match a with
  | ⟨0, _⟩ => rfl
  | ⟨1, _⟩ => rfl
  | ⟨2, _⟩ => rfl
  | ⟨3, _⟩ => rfl

/-- A bit read as an unsigned number. -/
theorem bit_unsigned (c : BitVec 1) : ((c.toNat : ℝ) : EReal) = ind c := by
  have hc : c = 1#1 ∨ c = 0#1 := by revert c; decide
  rcases hc with rfl | rfl
  · simp [ind]
  · simp [ind]

/-- A pixel's weight in the a/b histogram. -/
theorem weight_ab (n : Fin 16) (y x : Fin 512) :
    val_main_v31 (F := Ideal) x1 (spot n y x) = ind (okAB (image x1 n 1 y x) (image x1 n 2 y x)) := by
  rw [← bit_unsigned, ← chan_a, ← chan_b]
  rfl

/-- A pixel's weight in the lightness histogram. -/
theorem weight_l (n : Fin 16) (y x : Fin 512) : val_main_v78 (F := Ideal) x1 (spot n y x) = ind (okL (image x1 n 0 y x)) := by
  rw [← bit_unsigned, ← chan_l]
  rfl

theorem added_ab (n : Fin 16) (y x : Fin 512) :
    val_main_v52 (F := Ideal) x1 (ix1 (flat n y x)) = ind (okAB (image x1 n 1 y x) (image x1 n 2 y x)) := by
  rw [val_main_v52_apply, show idx_main_v52 (ix1 (flat n y x)) = spot n y x from spot_flat n y x, weight_ab]

theorem added_l (n : Fin 16) (y x : Fin 512) : val_main_v91 (F := Ideal) x1 (ix1 (flat n y x)) = ind (okL (image x1 n 0 y x)) := by
  rw [val_main_v91_apply, show idx_main_v91 (ix1 (flat n y x)) = spot n y x from spot_flat n y x, weight_l]

theorem first_coord (k : Fin 4194304) : idx_main_v54 (ix2 k (0 : Fin 1)) = ix1 k := by
  funext a
  match a with
  | ⟨0, _⟩ => rfl

theorem bins_a (n : Fin 16) (y x : Fin 512) : val_main_v36 (F := Ideal) x1 (spot n y x) = binAB (image x1 n 1 y x) := by
  rw [← chan_a]
  rfl

theorem bins_b (n : Fin 16) (y x : Fin 512) : val_main_v41 (F := Ideal) x1 (spot n y x) = binAB (image x1 n 2 y x) := by
  rw [← chan_b]
  rfl

theorem bins_l (n : Fin 16) (y x : Fin 512) : val_main_v83 (F := Ideal) x1 (spot n y x) = binL (image x1 n 0 y x) := by
  rw [← chan_l]
  rfl

theorem small_ab (a : EReal) : (binAB a).toNat < 64 := by
  obtain ⟨p, hp⟩ := bin_a a
  rw [hp, BitVec.toNat_ofNat]
  have := p.isLt
  omega

theorem small_l (a : EReal) : (binL a).toNat < 8 := by
  obtain ⟨p, hp⟩ := bin_l a
  rw [hp, BitVec.toNat_ofNat]
  have := p.isLt
  omega

/-- The cell of the flat a/b histogram a pixel is sent to. -/
theorem cell_ab (n : Fin 16) (y x : Fin 512) : val_main_v54 (F := Ideal) x1 (ix2 (flat n y x) (0 : Fin 1))
    = BitVec.ofNat 32 (n.val * 4096 + ((binAB (image x1 n 1 y x)).toNat * 64 + (binAB (image x1 n 2 y x)).toNat)) := by
  have h : val_main_v54 (F := Ideal) x1 (ix2 (flat n y x) (0 : Fin 1)) = val_main_v50 (F := Ideal) x1 (spot n y x) := by
    rw [val_main_v54_apply, show idx_main_v54 (ix2 (flat n y x) (0 : Fin 1)) = ix1 (flat n y x) from first_coord _, val_main_v51_apply, spot_flat]
  have h' : val_main_v50 (F := Ideal) x1 (spot n y x)
      = (BitVec.ofNat 32 n.val * 4096#32 + val_main_v36 (F := Ideal) x1 (spot n y x) * 64#32) + val_main_v41 (F := Ideal) x1 (spot n y x) := by
    rw [val_main_v50_apply, val_main_v49_apply, val_main_v48_apply, val_main_v45_apply, val_main_v44_apply, val_main_v43_apply, val_main_v42_apply,
      val_main_v47_apply, val_main_v46_apply, val_main_c_14_apply, val_main_c_15_apply]
    generalize val_main_v36 (F := Ideal) x1 (spot n y x) = a
    generalize val_main_v41 (F := Ideal) x1 (spot n y x) = b
    rfl
  rw [h, h', bins_a, bins_b]
  have ha := small_ab (image x1 n 1 y x)
  have hb := small_ab (image x1 n 2 y x)
  generalize binAB (image x1 n 1 y x) = a at ha ⊢
  generalize binAB (image x1 n 2 y x) = b at hb ⊢
  refine BitVec.eq_of_toNat_eq ?_
  simp only [BitVec.toNat_add, BitVec.toNat_mul, BitVec.toNat_ofNat]
  omega

/-- The cell of the flat lightness histogram a pixel is sent to. -/
theorem cell_l (n : Fin 16) (y x : Fin 512) : val_main_v93 (F := Ideal) x1 (ix2 (flat n y x) (0 : Fin 1))
    = BitVec.ofNat 32 (n.val * 8 + (binL (image x1 n 0 y x)).toNat) := by
  have h : val_main_v93 (F := Ideal) x1 (ix2 (flat n y x) (0 : Fin 1)) = val_main_v89 (F := Ideal) x1 (spot n y x) := by
    rw [val_main_v93_apply, show idx_main_v93 (ix2 (flat n y x) (0 : Fin 1)) = ix1 (flat n y x) from first_coord _, val_main_v90_apply,
      show idx_main_v90 (ix1 (flat n y x)) = spot n y x from spot_flat n y x]
  have h' : val_main_v89 (F := Ideal) x1 (spot n y x)
      = BitVec.ofNat 32 n.val * 8#32 + val_main_v83 (F := Ideal) x1 (spot n y x) := by
    rw [val_main_v89_apply, val_main_v88_apply, val_main_v87_apply, val_main_v86_apply, val_main_v85_apply, val_main_v84_apply, val_main_c_26_apply]
    generalize val_main_v83 (F := Ideal) x1 (spot n y x) = a
    rfl
  rw [h, h', bins_l]
  have ha := small_l (image x1 n 0 y x)
  generalize binL (image x1 n 0 y x) = a at ha ⊢
  refine BitVec.eq_of_toNat_eq ?_
  simp only [BitVec.toNat_add, BitVec.toNat_mul, BitVec.toNat_ofNat]
  omega

theorem named_bin (a : BitVec 32) (p : ℕ) (hp : p < 64) : a.toNat = p ↔ a = BitVec.ofNat 32 p := by
  constructor
  · rintro rfl
    exact BitVec.eq_of_toNat_eq (by rw [BitVec.toNat_ofNat]; exact (Nat.mod_eq_of_lt a.isLt).symm)
  · rintro rfl
    rw [BitVec.toNat_ofNat]
    omega

theorem scattered_ab : val_main_v55 (F := Ideal) x1 = Ideal.hostScatterAdd scatter_S65536_S4194304x1_S4194304_n_0_0_1 (val_main_v53 (F := Ideal))
    (val_main_v54 (F := Ideal) x1) (val_main_v52 (F := Ideal) x1) := by
  unfold val_main_v55
  generalize val_main_v53 (F := Ideal) = z
  generalize val_main_v54 (F := Ideal) x1 = i
  generalize val_main_v52 (F := Ideal) x1 = u
  simp only [Host.scatterAdd, Ideal.hostScatterAdd_def]

theorem zeros_ab (i : S65536.Idx) : val_main_v53 (F := Ideal) i = 0 := by
  rw [val_main_v53_apply]
  exact Ideal.ofBits_zero_f32

/-- The scattered a/b counts of image `n`: cell (bin of a, bin of b). -/
theorem counted_ab (n : Fin 16) (q p : Fin 64) : val_main_v56 (F := Ideal) x1 (ix3 n q p) = cntAB (image x1 n) p q := by
  rw [val_main_v56_apply]
  have hi : idx_main_v56 (ix3 n q p) = ix1 (⟨n.val * 4096 + (q.val * 64 + p.val), by omega⟩ : Fin 65536) := by
    funext a
    refine Fin.ext ?_
    match a with
    | ⟨0, _⟩ => show (n.val * 64 + q.val) * 64 + p.val = n.val * 4096 + (q.val * 64 + p.val); omega
  rw [hi, scattered_ab]
  refine (scatter_cells scatter_S65536_S4194304x1_S4194304_n_0_0_1 rfl rfl rfl (val_main_v53 (F := Ideal))
    (fun i => zeros_ab i) (val_main_v54 (F := Ideal) x1) (val_main_v52 (F := Ideal) x1) 4096 (by norm_num) (by norm_num)
    (fun n y x => (binAB (image x1 n 1 y x)).toNat * 64 + (binAB (image x1 n 2 y x)).toNat)
    (fun n y x => by
      have ha := small_ab (image x1 n 1 y x)
      have hb := small_ab (image x1 n 2 y x)
      show (binAB (image x1 n 1 y x)).toNat * 64 + (binAB (image x1 n 2 y x)).toNat < 4096
      omega)
    (fun n y x => ind (okAB (image x1 n 1 y x) (image x1 n 2 y x)))
    (fun n y x => cell_ab x1 n y x)
    (fun n y x => added_ab x1 n y x)
    n (q.val * 64 + p.val) (by omega) _ rfl).trans ?_
  unfold cntAB termAB
  refine Finset.sum_congr rfl fun y _ => Finset.sum_congr rfl fun x _ => if_congr ?_ rfl rfl
  rw [← named_bin _ _ p.isLt, ← named_bin _ _ q.isLt]
  have ha := small_ab (image x1 n 1 y x)
  have hb := small_ab (image x1 n 2 y x)
  omega

theorem scattered_l : val_main_v94 (F := Ideal) x1 = Ideal.hostScatterAdd scatter_S128_S4194304x1_S4194304_n_0_0_1 (val_main_v92 (F := Ideal))
    (val_main_v93 (F := Ideal) x1) (val_main_v91 (F := Ideal) x1) := by
  unfold val_main_v94
  generalize val_main_v92 (F := Ideal) = z
  generalize val_main_v93 (F := Ideal) x1 = i
  generalize val_main_v91 (F := Ideal) x1 = u
  simp only [Host.scatterAdd, Ideal.hostScatterAdd_def]

theorem zeros_l (i : S128.Idx) : val_main_v92 (F := Ideal) i = 0 := by
  rw [val_main_v92_apply]
  exact Ideal.ofBits_zero_f32

/-- The scattered lightness counts of image `n`. -/
theorem counted_l (n : Fin 16) (k : Fin 8) : val_main_v95 (F := Ideal) x1 (ix2 n k) = cntL (image x1 n) k := by
  rw [val_main_v95_apply]
  have hi : idx_main_v95 (ix2 n k) = ix1 (⟨n.val * 8 + k.val, by omega⟩ : Fin 128) := by
    funext a
    refine Fin.ext ?_
    match a with
    | ⟨0, _⟩ => rfl
  rw [hi, scattered_l]
  refine (scatter_cells scatter_S128_S4194304x1_S4194304_n_0_0_1 rfl rfl rfl (val_main_v92 (F := Ideal))
    (fun i => zeros_l i) (val_main_v93 (F := Ideal) x1) (val_main_v91 (F := Ideal) x1) 8 (by norm_num) (by norm_num)
    (fun n y x => (binL (image x1 n 0 y x)).toNat)
    (fun n y x => small_l (image x1 n 0 y x))
    (fun n y x => ind (okL (image x1 n 0 y x)))
    (fun n y x => cell_l x1 n y x)
    (fun n y x => added_l x1 n y x)
    n k.val k.isLt _ rfl).trans ?_
  unfold cntL termL
  exact Finset.sum_congr rfl fun y _ => Finset.sum_congr rfl fun x _ => if_congr (named_bin _ _ (by omega)) rfl rfl

/-- The sum of all a/b counts of an image. -/
theorem total_ab (n : Fin 16) : val_main_v57 (F := Ideal) x1 (ix1 n) = ∑ p, ∑ q, cntAB (image x1 n) p q := by
  have h : val_main_v57 (F := Ideal) x1 (ix1 n) = ∑ q : Fin 64, ∑ p : Fin 64, val_main_v56 (F := Ideal) x1 (ix3 n q p) := by
    unfold val_main_v57
    generalize val_main_v56 (F := Ideal) x1 = z
    have hc : val_main_cst_17 (F := Ideal) (Shape.Idx.first h_S_) = 0 := Ideal.ofBits_zero_f32
    simp only [Host.reduceAdd, Ideal.hostReduceAdd_def]
    unfold Ideal.hostReduceAdd
    rw [hc, zero_add, Finset.sum_filter, sum_ix3, Finset.sum_eq_single n]
    · refine Finset.sum_congr rfl fun q _ => Finset.sum_congr rfl fun p _ => if_pos ?_
      funext a
      match a with
      | ⟨0, _⟩ => rfl
    · intro m _ hm
      refine Finset.sum_eq_zero fun q _ => Finset.sum_eq_zero fun p _ => if_neg fun h => hm ?_
      exact congrFun h 0
    · intro h
      exact absurd (Finset.mem_univ n) h
  rw [h, Finset.sum_comm]
  exact Finset.sum_congr rfl fun p _ => Finset.sum_congr rfl fun q _ => counted_ab x1 n q p

/-- The reference's a/b histogram: row the bin of b, column the bin of a. -/
theorem hist_ab (n : Fin 16) (p q : Fin 64) : val_main_v62 (F := Ideal) x1 (ix4 n 0 p q) = hAB (image x1 n) p q := by
  rw [val_main_v62_apply, val_main_v61_apply, val_main_v60_apply, val_main_v59_apply, val_main_v58_apply]
  show Ideal.div _ _ = _
  unfold hAB
  refine congrArg₂ Ideal.div (Eq.trans (congrArg _ ?_) (counted_ab x1 n q p)) (Eq.trans (congrArg _ ?_) (total_ab x1 n))
  · funext a
    match a with
    | ⟨0, _⟩ => rfl
    | ⟨1, _⟩ => rfl
    | ⟨2, _⟩ => rfl
  · funext a
    match a with
    | ⟨0, _⟩ => rfl

/-- The reference's lightness histogram. -/
theorem hist_l (n : Fin 16) (k : Fin 8) : val_main_v99 (F := Ideal) x1 (ix2 n k) = hL (image x1 n) k := by
  rw [val_main_v99_apply, val_main_v98_apply, val_main_v97_apply, val_main_v96_apply]
  show Ideal.div _ _ = _
  unfold hL
  have hc : val_main_cst_28 (F := Ideal) (Shape.Idx.first h_S_) = 0 := Ideal.ofBits_zero_f32
  rw [hc, zero_add]
  refine congrArg₂ Ideal.div (counted_l x1 n k) (Finset.sum_congr rfl fun j _ => Eq.trans (congrArg _ ?_) (counted_l x1 n j))
  funext a
  match a with
  | ⟨0, _⟩ => rfl
  | ⟨1, _⟩ => rfl

end Cert.Hen

end
-- ==== Proof.RConv1.lean ====
/- The reference's first layer: the stack of both histograms, the padded 1 by 1 convolution over it, the normalisation,
   the strided pooling and the rectification, which give the specification's first layer. -/
module

public import proofs.«01_k».proof.Proof.RHist
public import Idealize.ShloMosaic.Lib.KernelVsHost

@[expose] public section

noncomputable section

open Idealize.ShloMosaic Idealize.ShloMosaic.ValueIdx Cert.ReferenceIdeal Cert.ReferenceIdeal.Gen Cert.ReferenceIdeal.Read

namespace Cert.Hen

/-- Padding the last two axes of a rank 4 tensor by one cell on each side: inside, the cell one up and one left. -/
theorem ring_inside {a b p q P Q : ℕ} {u : Shape} (x : (⟨4, ![a, b, p, q]⟩ : Shape).Idx → EReal) (v : u.Idx → EReal)
    (h : (⟨4, ![a, b, p, q]⟩ : Shape).Pads ![0, 0, 1, 1] ![0, 0, 1, 1] ![0, 0, 0, 0] ⟨4, ![a, b, P, Q]⟩) (hu : 0 < u.numel)
    (n : Fin a) (o : Fin b) (r : Fin P) (c : Fin Q) (r' : Fin p) (c' : Fin q) (hr : r.val = r'.val + 1)
    (hc : c.val = c'.val + 1) :
    pad ⟨4, ![a, b, P, Q]⟩ ![0, 0, 1, 1] ![0, 0, 1, 1] ![0, 0, 0, 0] x v h hu (ix4 n o r c) = x (ix4 n o r' c') := by
  refine pad_apply_of_inside ![0, 0, 1, 1] ![0, 0, 1, 1] ![0, 0, 0, 0] x v h hu (ix4 n o r c) (ix4 n o r' c') fun d => ?_
  match d with
  | ⟨0, _⟩ => show n.val = 0 + n.val * 1; omega
  | ⟨1, _⟩ => show o.val = 0 + o.val * 1; omega
  | ⟨2, _⟩ => show r.val = 1 + r'.val * 1; omega
  | ⟨3, _⟩ => show c.val = 1 + c'.val * 1; omega

/-- On the padding, the padding value. -/
theorem ring_outside {a b p q P Q : ℕ} {u : Shape} (x : (⟨4, ![a, b, p, q]⟩ : Shape).Idx → EReal) (v : u.Idx → EReal)
    (h : (⟨4, ![a, b, p, q]⟩ : Shape).Pads ![0, 0, 1, 1] ![0, 0, 1, 1] ![0, 0, 0, 0] ⟨4, ![a, b, P, Q]⟩) (hu : 0 < u.numel)
    (n : Fin a) (o : Fin b) (r : Fin P) (c : Fin Q) (ho : ¬(1 ≤ r.val ∧ r.val ≤ p ∧ 1 ≤ c.val ∧ c.val ≤ q)) :
    pad ⟨4, ![a, b, P, Q]⟩ ![0, 0, 1, 1] ![0, 0, 1, 1] ![0, 0, 0, 0] x v h hu (ix4 n o r c) = v (Shape.Idx.first hu) := by
  by_cases hr : 1 ≤ r.val ∧ r.val ≤ p
  · refine pad_apply_of_not_inside ![0, 0, 1, 1] ![0, 0, 1, 1] ![0, 0, 0, 0] x v h hu (ix4 n o r c) (3 : Fin 4) ?_
    show ¬(1 ≤ c.val ∧ (c.val - 1) % (0 + 1) = 0 ∧ (c.val - 1) / (0 + 1) < q)
    rw [Nat.zero_add, Nat.div_one]
    omega
  · refine pad_apply_of_not_inside ![0, 0, 1, 1] ![0, 0, 1, 1] ![0, 0, 0, 0] x v h hu (ix4 n o r c) (2 : Fin 4) ?_
    show ¬(1 ≤ r.val ∧ (r.val - 1) % (0 + 1) = 0 ∧ (r.val - 1) / (0 + 1) < p)
    rw [Nat.zero_add, Nat.div_one]
    omega

variable (x1 : FVec Ideal S16x3x512x512 .f32) (x2 : FVec Ideal S128x9x1x1 .f32) (x3 x4 x5 x6 : FVec Ideal S128 .f32)

/-- A word of the signed integer zero is the real zero. -/
theorem pad_zero : (FloatOps.sitofp (F := Ideal) .f32 (0#32) : EReal) = 0 := by
  show ((((0#32 : BitVec 32).toInt : ℤ) : ℝ) : EReal) = 0
  simp

/-- The stack's first channel is the a/b histogram. -/
theorem stack_first (n : Fin 16) (r c : Fin 64) :
    val_main_v102 (F := Ideal) x1 (ix4 n 0 r c) = hAB (image x1 n) r c := by
  unfold val_main_v102
  refine Eq.trans ?_ (hist_ab x1 n r c)
  generalize val_main_v62 (F := Ideal) x1 = y0
  generalize val_main_v101 (F := Ideal) x1 = y1
  exact concatenate_pair_apply_left (t := S16x9x64x64) 1 y0 y1 _ (ix4 n 0 r c) rfl (ix4 n 0 r c) fun d => match d with
    | ⟨0, _⟩ => rfl
    | ⟨1, _⟩ => rfl
    | ⟨2, _⟩ => rfl
    | ⟨3, _⟩ => rfl

/-- The stack's other channels are the lightness histogram, everywhere the same. -/
theorem stack_rest (n : Fin 16) (k : Fin 8) (r c : Fin 64) :
    val_main_v102 (F := Ideal) x1 (ix4 n k.succ r c) = hL (image x1 n) k := by
  have hb : val_main_v101 (F := Ideal) x1 (ix4 n k r c) = hL (image x1 n) k := by
    rw [val_main_v101_apply, val_main_v100_apply]
    refine Eq.trans (congrArg _ ?_) (hist_l x1 n k)
    funext a
    match a with
    | ⟨0, _⟩ => rfl
    | ⟨1, _⟩ => rfl
  unfold val_main_v102
  refine Eq.trans ?_ hb
  generalize val_main_v62 (F := Ideal) x1 = y0
  generalize val_main_v101 (F := Ideal) x1 = y1
  exact concatenate_pair_apply_right (t := S16x9x64x64) 1 y0 y1 _ (ix4 n k.succ r c) rfl rfl (ix4 n k r c)
    (fun d => match d with
      | ⟨0, _⟩ => fun _ => rfl
      | ⟨1, _⟩ => fun h => absurd rfl h
      | ⟨2, _⟩ => fun _ => rfl
      | ⟨3, _⟩ => fun _ => rfl) (show k.val + 1 = (Fin.succ k).val from rfl)

/-- The padded stack inside the ring. -/
theorem wide_in (n : Fin 16) (k : Fin 9) (r c : Fin 66) (r' c' : Fin 64) (hr : r.val = r'.val + 1) (hc : c.val = c'.val + 1) :
    val_main_v103 (F := Ideal) x1 (ix4 n k r c) = val_main_v102 (F := Ideal) x1 (ix4 n k r' c') := by
  unfold val_main_v103
  generalize val_main_v102 (F := Ideal) x1 = y
  exact ring_inside y _ _ _ n k r c r' c' hr hc

/-- The padded stack on the ring. -/
theorem wide_out (n : Fin 16) (k : Fin 9) (r c : Fin 66) (ho : ¬(1 ≤ r.val ∧ r.val ≤ 64 ∧ 1 ≤ c.val ∧ c.val ≤ 64)) :
    val_main_v103 (F := Ideal) x1 (ix4 n k r c) = 0 := by
  unfold val_main_v103
  generalize val_main_v102 (F := Ideal) x1 = y
  exact (ring_outside y _ _ _ n k r c ho).trans pad_zero

/-- The weights of the first convolution as a matrix. -/
theorem weight1 (o : Fin 128) (k : Fin 9) : val_main_v104 (F := Ideal) x2 (ix2 o k) = x2 (ix4 o k 0 0) := by
  rw [val_main_v104_apply]
  refine congrArg x2 (funext fun a => Fin.ext ?_)
  match a with
  | ⟨0, _⟩ => show (o.val * 9 + k.val) / 9 = o.val; omega
  | ⟨1, _⟩ => show (o.val * 9 + k.val) / 1 % 9 = k.val; omega
  | ⟨2, _⟩ => rfl
  | ⟨3, _⟩ => rfl

/-- The convolution at a cell: the nine channels there against the weights. -/
theorem conv1_cell (n : Fin 16) (o : Fin 128) (r c : Fin 66) :
    val_main_v108 (F := Ideal) x1 x2 (ix4 n o r c) =
      ∑ k : Fin 9, val_main_v103 (F := Ideal) x1 (ix4 n k r c) * x2 (ix4 o k 0 0) := by
  rw [val_main_v108_apply, val_main_v107_apply, val_main_v106_apply]
  have hz : val_main_cst_30 (F := Ideal) (idx_main_v107 (ix4 n o r c)) = 0 := Ideal.ofBits_zero_f32
  rw [hz, show idx_main_v106 (ix4 n o r c) = ix4 n r c o from funext fun a => match a with
    | ⟨0, _⟩ => rfl
    | ⟨1, _⟩ => rfl
    | ⟨2, _⟩ => rfl
    | ⟨3, _⟩ => rfl, val_main_v105_apply]
  show (0 : EReal) + _ = _
  rw [zero_add]
  refine Finset.sum_congr rfl fun k _ => congrArg₂ (· * ·) (congrArg _ ?_) (Eq.trans (congrArg _ ?_) (weight1 x2 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The first normalisation's multiplier. -/
theorem gain1 (o : Fin 128) : val_main_v112 (F := Ideal) x3 x6 (ix1 o) = bnInv (x3 (ix1 o)) (x6 (ix1 o)) := by
  rw [val_main_v112_apply, val_main_v111_apply, val_main_v110_apply, val_main_v109_apply]
  rfl

/-- The multiplier, broadcast. -/
theorem gain1_at (n : Fin 16) (o : Fin 128) (r c : Fin 66) :
    val_main_v114 (F := Ideal) x3 x6 (ix4 n o r c) = bnInv (x3 (ix1 o)) (x6 (ix1 o)) := by
  rw [val_main_v114_apply, val_main_v113_apply]
  refine Eq.trans (congrArg _ ?_) (gain1 x3 x6 o)
  funext a
  match a with
  | ⟨0, _⟩ => rfl

/-- The shift, broadcast. -/
theorem shift1_at (n : Fin 16) (o : Fin 128) (r c : Fin 66) :
    val_main_v119 (F := Ideal) x3 x4 x5 x6 (ix4 n o r c) =
      bnShift (x3 (ix1 o)) (x4 (ix1 o)) (x5 (ix1 o)) (x6 (ix1 o)) := by
  rw [val_main_v119_apply, val_main_v118_apply, show idx_main_v118 (idx_main_v119 (ix4 n o r c)) = ix1 o from
    funext fun a => match a with | ⟨0, _⟩ => rfl, val_main_v117_apply, val_main_v116_apply, gain1]
  rfl

/-- The row of weights of an output channel. -/
def weights1 (o : Fin 128) (k : Fin 9) : EReal := x2 (ix4 o k 0 0)

/-- The board of output channel `o` of image `n`. -/
def board1 (n : Fin 16) (o : Fin 128) : ℕ → ℕ → EReal :=
  board (hAB (image x1 n)) (weights1 x2 o 0) (∑ k : Fin 8, hL (image x1 n) k * weights1 x2 o k.succ)
    (bnInv (x3 (ix1 o)) (x6 (ix1 o))) (bnShift (x3 (ix1 o)) (x4 (ix1 o)) (x5 (ix1 o)) (x6 (ix1 o)))

/-- The normalised convolution is the board without its outermost ring. -/
theorem norm1 (n : Fin 16) (o : Fin 128) (r c : Fin 66) :
    val_main_v120 (F := Ideal) x1 x2 x3 x4 x5 x6 (ix4 n o r c) = board1 x1 x2 x3 x4 x5 x6 n o (r.val + 1) (c.val + 1) := by
  rw [val_main_v120_apply, val_main_v115_apply, conv1_cell, gain1_at, shift1_at]
  unfold board1 board
  by_cases hi : inner (r.val + 1) (c.val + 1)
  · rw [dif_pos hi]
    have hi' := hi
    unfold inner at hi'
    have hw : ∀ k : Fin 9, val_main_v103 (F := Ideal) x1 (ix4 n k r c) =
        val_main_v102 (F := Ideal) x1 (ix4 n k ⟨r.val - 1, by omega⟩ ⟨c.val - 1, by omega⟩) := fun k =>
      wide_in x1 n k r c ⟨r.val - 1, by omega⟩ ⟨c.val - 1, by omega⟩ (show r.val = r.val - 1 + 1 by omega)
        (show c.val = c.val - 1 + 1 by omega)
    rw [Finset.sum_congr rfl fun k _ => congrArg (· * x2 (ix4 o k 0 0)) (hw k), Fin.sum_univ_succ, stack_first]
    rw [Finset.sum_congr rfl fun k _ => congrArg (· * x2 (ix4 o (Fin.succ k) 0 0)) (stack_rest x1 n k _ _)]
    rfl
  · rw [dif_neg hi, if_pos (show outer (r.val + 1) (c.val + 1) by unfold outer; omega)]
    have ho : ¬(1 ≤ r.val ∧ r.val ≤ 64 ∧ 1 ≤ c.val ∧ c.val ≤ 64) := by
      unfold inner at hi
      omega
    rw [Finset.sum_eq_zero fun k _ => (congrArg (· * x2 (ix4 o k 0 0)) (wide_out x1 n k r c ho)).trans (zero_mul _)]
    show (0 : EReal) * _ + _ = _
    rw [zero_mul, zero_add]

/-- With the pooling's ring, the whole board. -/
theorem board1_at (n : Fin 16) (o : Fin 128) (r c : Fin 68) :
    val_main_v121 (F := Ideal) x1 x2 x3 x4 x5 x6 (ix4 n o r c) = board1 x1 x2 x3 x4 x5 x6 n o r.val c.val := by
  by_cases hi : 1 ≤ r.val ∧ r.val ≤ 66 ∧ 1 ≤ c.val ∧ c.val ≤ 66
  · have h := norm1 x1 x2 x3 x4 x5 x6 n o ⟨r.val - 1, by omega⟩ ⟨c.val - 1, by omega⟩
    rw [show r.val - 1 + 1 = r.val by omega, show c.val - 1 + 1 = c.val by omega] at h
    rw [← h]
    unfold val_main_v121
    generalize val_main_v120 (F := Ideal) x1 x2 x3 x4 x5 x6 = y
    exact ring_inside y _ _ _ n o r c _ _ (show r.val = r.val - 1 + 1 by omega) (show c.val = c.val - 1 + 1 by omega)
  · have hb : board1 x1 x2 x3 x4 x5 x6 n o r.val c.val = ⊥ := by
      unfold board1 board
      rw [dif_neg (show ¬inner r.val c.val by unfold inner; omega), if_neg (show ¬outer r.val c.val from hi)]
    rw [hb]
    unfold val_main_v121
    generalize val_main_v120 (F := Ideal) x1 x2 x3 x4 x5 x6 = y
    exact (ring_outside y _ _ _ n o r c hi).trans ninf_word

/-- A strided slice of a board-like tensor. -/
theorem strided (y : FVec Ideal S16x128x68x68 .f32) (i j : ℕ) (h) (n : Fin 16) (o : Fin 128) (r c : Fin 33) (hi : i ≤ 2)
    (hj : j ≤ 2) :
    Host.slice S16x128x33x33 ![0, 0, i, j] ![1, 1, 2, 2] y h (ix4 n o r c) =
      y (ix4 n o ⟨2 * r.val + i, by omega⟩ ⟨2 * c.val + j, by omega⟩) := by
  unfold Host.slice
  refine congrArg y (funext fun a => Fin.ext ?_)
  match a with
  | ⟨0, _⟩ => show 0 + 1 * n.val = n.val; omega
  | ⟨1, _⟩ => show 0 + 1 * o.val = o.val; omega
  | ⟨2, _⟩ => show i + 2 * r.val = 2 * r.val + i; omega
  | ⟨3, _⟩ => show j + 2 * c.val = 2 * c.val + j; omega

/-- The nine slices hold the nine cells of every window. -/
theorem window (n : Fin 16) (o : Fin 128) (r c : Fin 33) :
    val_main_v138 (F := Ideal) x1 x2 x3 x4 x5 x6 (ix4 n o r c) =
      max9 (board1 x1 x2 x3 x4 x5 x6 n o) (2 * r.val) (2 * c.val) := by
  rw [val_main_v138_apply, val_main_v137_apply, val_main_v136_apply, val_main_v135_apply, val_main_v134_apply,
    val_main_v133_apply, val_main_v132_apply, val_main_v131_apply]
  unfold val_main_v122 val_main_v123 val_main_v124 val_main_v125 val_main_v126 val_main_v127 val_main_v128 val_main_v129
    val_main_v130
  have hb := board1_at x1 x2 x3 x4 x5 x6 n o
  generalize val_main_v121 (F := Ideal) x1 x2 x3 x4 x5 x6 = y at hb ⊢
  rw [strided y 0 0 _ n o r c (by omega) (by omega), strided y 0 1 _ n o r c (by omega) (by omega),
    strided y 0 2 _ n o r c (by omega) (by omega), strided y 1 0 _ n o r c (by omega) (by omega),
    strided y 1 1 _ n o r c (by omega) (by omega), strided y 1 2 _ n o r c (by omega) (by omega),
    strided y 2 0 _ n o r c (by omega) (by omega), strided y 2 1 _ n o r c (by omega) (by omega),
    strided y 2 2 _ n o r c (by omega) (by omega)]
  simp only [hb]
  rfl

/-- The reference's first layer is the specification's. -/
theorem first_layer (n : Fin 16) (o : Fin 128) (r c : Fin 33) :
    val_main_v139 (F := Ideal) x1 x2 x3 x4 x5 x6 (ix4 n o r c) =
      layer1 (image x1 n) (weights1 x2) (fun o => x3 (ix1 o)) (fun o => x4 (ix1 o)) (fun o => x5 (ix1 o))
        (fun o => x6 (ix1 o)) o r c := by
  rw [val_main_v139_apply, window, val_main_call5_v0_apply]
  have hz : val_main_call5_cst (F := Ideal) (idx_main_call5_v0 (ix4 n o r c)) = 0 := Ideal.ofBits_zero_f32
  rw [hz]
  rfl

end Cert.Hen

end
-- ==== Proof.RConv2.lean ====
/- The reference's second layer: the padded 3 by 3 convolution as nine matrix products, the normalisation, the
   rectification and the mean, which give the specification's second layer. -/
module

public import proofs.«01_k».proof.Proof.RConv1

@[expose] public section

noncomputable section

open Idealize.ShloMosaic Idealize.ShloMosaic.ValueIdx Cert.ReferenceIdeal Cert.ReferenceIdeal.Gen Cert.ReferenceIdeal.Read

namespace Cert.Hen

variable (x1 : FVec Ideal S16x3x512x512 .f32) (x2 : FVec Ideal S128x9x1x1 .f32) (x3 x4 x5 x6 : FVec Ideal S128 .f32)
  (x7 : FVec Ideal S1024x128x3x3 .f32) (x8 x9 x10 x11 : FVec Ideal S1024 .f32)

/-- The first layer of image `n`, all channels. -/
def layerOf (n : Fin 16) : Fin 128 → Fin 33 → Fin 33 → EReal :=
  layer1 (image x1 n) (weights1 x2) (fun o => x3 (ix1 o)) (fun o => x4 (ix1 o)) (fun o => x5 (ix1 o)) (fun o => x6 (ix1 o))

/-- The weights of the second convolution into output channel `o`. -/
def weights2 (o : Fin 1024) (k : Fin 128) (di dj : Fin 3) : EReal := x7 (ix4 o k di dj)

/-- The first layer with its ring of zeros. -/
theorem ringed_at (n : Fin 16) (k : Fin 128) (r c : Fin 35) :
    val_main_v140 (F := Ideal) x1 x2 x3 x4 x5 x6 (ix4 n k r c) = ringed (layerOf x1 x2 x3 x4 x5 x6 n k) r.val c.val := by
  unfold ringed
  by_cases hi : 1 ≤ r.val ∧ r.val ≤ 33 ∧ 1 ≤ c.val ∧ c.val ≤ 33
  · rw [dif_pos hi]
    refine Eq.trans ?_ (first_layer x1 x2 x3 x4 x5 x6 n k ⟨r.val - 1, by omega⟩ ⟨c.val - 1, by omega⟩)
    unfold val_main_v140
    generalize val_main_v139 (F := Ideal) x1 x2 x3 x4 x5 x6 = y
    exact ring_inside y _ _ _ n k r c _ _ (show r.val = r.val - 1 + 1 by omega) (show c.val = c.val - 1 + 1 by omega)
  · rw [dif_neg hi]
    unfold val_main_v140
    generalize val_main_v139 (F := Ideal) x1 x2 x3 x4 x5 x6 = y
    exact (ring_outside y _ _ _ n k r c hi).trans pad_zero

/-- The weights of tap (0, 0). -/
theorem weight_00 (o : Fin 1024) (k : Fin 128) :
    val_main_v142 (F := Ideal) x7 (ix2 o k) = weights2 x7 o k 0 0 := by
  rw [val_main_v142_apply, val_main_v141_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (0, 0). -/
theorem moved_00 (n : Fin 16) (k : Fin 128) (r c : Fin 33) :
    val_main_v143 (F := Ideal) x1 x2 x3 x4 x5 x6 (ix4 n k r c) =
      ringed (layerOf x1 x2 x3 x4 x5 x6 n k) (r.val + 0) (c.val + 0) := by
  rw [val_main_v143_apply]
  refine Eq.trans (congrArg _ ?_) (ringed_at x1 x2 x3 x4 x5 x6 n k ⟨r.val + 0, by omega⟩ ⟨c.val + 0, by omega⟩)
  refine funext fun a => Fin.ext ?_
  match a with
  | ⟨0, _⟩ => rfl
  | ⟨1, _⟩ => rfl
  | ⟨2, _⟩ => rfl
  | ⟨3, _⟩ => rfl

/-- Tap (0, 0) of the convolution. -/
theorem tap_00 (n : Fin 16) (o : Fin 1024) (r c : Fin 33) :
    val_main_v145 (F := Ideal) x1 x2 x3 x4 x5 x6 x7 (ix4 n o r c) =
      tap (layerOf x1 x2 x3 x4 x5 x6 n) (fun k => weights2 x7 o k 0 0) 0 0 r c := by
  rw [val_main_v145_apply, show idx_main_v145 (ix4 n o r c) = ix4 n r c o from funext fun a => match a with
    | ⟨0, _⟩ => rfl
    | ⟨1, _⟩ => rfl
    | ⟨2, _⟩ => rfl
    | ⟨3, _⟩ => rfl, val_main_v144_apply]
  unfold tap
  refine Finset.sum_congr rfl fun k _ => congrArg₂ (· * ·)
    (Eq.trans (congrArg _ ?_) (moved_00 x1 x2 x3 x4 x5 x6 n k r c)) (Eq.trans (congrArg _ ?_) (weight_00 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (0, 1). -/
theorem weight_01 (o : Fin 1024) (k : Fin 128) :
    val_main_v149 (F := Ideal) x7 (ix2 o k) = weights2 x7 o k 0 1 := by
  rw [val_main_v149_apply, val_main_v148_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (0, 1). -/
theorem moved_01 (n : Fin 16) (k : Fin 128) (r c : Fin 33) :
    val_main_v150 (F := Ideal) x1 x2 x3 x4 x5 x6 (ix4 n k r c) =
      ringed (layerOf x1 x2 x3 x4 x5 x6 n k) (r.val + 0) (c.val + 1) := by
  rw [val_main_v150_apply]
  refine Eq.trans (congrArg _ ?_) (ringed_at x1 x2 x3 x4 x5 x6 n k ⟨r.val + 0, by omega⟩ ⟨c.val + 1, by omega⟩)
  refine funext fun a => Fin.ext ?_
  match a with
  | ⟨0, _⟩ => rfl
  | ⟨1, _⟩ => rfl
  | ⟨2, _⟩ => rfl
  | ⟨3, _⟩ => show 1 + c.val = c.val + 1; omega

/-- Tap (0, 1) of the convolution. -/
theorem tap_01 (n : Fin 16) (o : Fin 1024) (r c : Fin 33) :
    val_main_v152 (F := Ideal) x1 x2 x3 x4 x5 x6 x7 (ix4 n o r c) =
      tap (layerOf x1 x2 x3 x4 x5 x6 n) (fun k => weights2 x7 o k 0 1) 0 1 r c := by
  rw [val_main_v152_apply, show idx_main_v152 (ix4 n o r c) = ix4 n r c o from funext fun a => match a with
    | ⟨0, _⟩ => rfl
    | ⟨1, _⟩ => rfl
    | ⟨2, _⟩ => rfl
    | ⟨3, _⟩ => rfl, val_main_v151_apply]
  unfold tap
  refine Finset.sum_congr rfl fun k _ => congrArg₂ (· * ·)
    (Eq.trans (congrArg _ ?_) (moved_01 x1 x2 x3 x4 x5 x6 n k r c)) (Eq.trans (congrArg _ ?_) (weight_01 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (0, 2). -/
theorem weight_02 (o : Fin 1024) (k : Fin 128) :
    val_main_v155 (F := Ideal) x7 (ix2 o k) = weights2 x7 o k 0 2 := by
  rw [val_main_v155_apply, val_main_v154_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (0, 2). -/
theorem moved_02 (n : Fin 16) (k : Fin 128) (r c : Fin 33) :
    val_main_v156 (F := Ideal) x1 x2 x3 x4 x5 x6 (ix4 n k r c) =
      ringed (layerOf x1 x2 x3 x4 x5 x6 n k) (r.val + 0) (c.val + 2) := by
  rw [val_main_v156_apply]
  refine Eq.trans (congrArg _ ?_) (ringed_at x1 x2 x3 x4 x5 x6 n k ⟨r.val + 0, by omega⟩ ⟨c.val + 2, by omega⟩)
  refine funext fun a => Fin.ext ?_
  match a with
  | ⟨0, _⟩ => rfl
  | ⟨1, _⟩ => rfl
  | ⟨2, _⟩ => rfl
  | ⟨3, _⟩ => show 2 + c.val = c.val + 2; omega

/-- Tap (0, 2) of the convolution. -/
theorem tap_02 (n : Fin 16) (o : Fin 1024) (r c : Fin 33) :
    val_main_v158 (F := Ideal) x1 x2 x3 x4 x5 x6 x7 (ix4 n o r c) =
      tap (layerOf x1 x2 x3 x4 x5 x6 n) (fun k => weights2 x7 o k 0 2) 0 2 r c := by
  rw [val_main_v158_apply, show idx_main_v158 (ix4 n o r c) = ix4 n r c o from funext fun a => match a with
    | ⟨0, _⟩ => rfl
    | ⟨1, _⟩ => rfl
    | ⟨2, _⟩ => rfl
    | ⟨3, _⟩ => rfl, val_main_v157_apply]
  unfold tap
  refine Finset.sum_congr rfl fun k _ => congrArg₂ (· * ·)
    (Eq.trans (congrArg _ ?_) (moved_02 x1 x2 x3 x4 x5 x6 n k r c)) (Eq.trans (congrArg _ ?_) (weight_02 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (1, 0). -/
theorem weight_10 (o : Fin 1024) (k : Fin 128) :
    val_main_v161 (F := Ideal) x7 (ix2 o k) = weights2 x7 o k 1 0 := by
  rw [val_main_v161_apply, val_main_v160_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (1, 0). -/
theorem moved_10 (n : Fin 16) (k : Fin 128) (r c : Fin 33) :
    val_main_v162 (F := Ideal) x1 x2 x3 x4 x5 x6 (ix4 n k r c) =
      ringed (layerOf x1 x2 x3 x4 x5 x6 n k) (r.val + 1) (c.val + 0) := by
  rw [val_main_v162_apply]
  refine Eq.trans (congrArg _ ?_) (ringed_at x1 x2 x3 x4 x5 x6 n k ⟨r.val + 1, by omega⟩ ⟨c.val + 0, by omega⟩)
  refine funext fun a => Fin.ext ?_
  match a with
  | ⟨0, _⟩ => rfl
  | ⟨1, _⟩ => rfl
  | ⟨2, _⟩ => show 1 + r.val = r.val + 1; omega
  | ⟨3, _⟩ => rfl

/-- Tap (1, 0) of the convolution. -/
theorem tap_10 (n : Fin 16) (o : Fin 1024) (r c : Fin 33) :
    val_main_v164 (F := Ideal) x1 x2 x3 x4 x5 x6 x7 (ix4 n o r c) =
      tap (layerOf x1 x2 x3 x4 x5 x6 n) (fun k => weights2 x7 o k 1 0) 1 0 r c := by
  rw [val_main_v164_apply, show idx_main_v164 (ix4 n o r c) = ix4 n r c o from funext fun a => match a with
    | ⟨0, _⟩ => rfl
    | ⟨1, _⟩ => rfl
    | ⟨2, _⟩ => rfl
    | ⟨3, _⟩ => rfl, val_main_v163_apply]
  unfold tap
  refine Finset.sum_congr rfl fun k _ => congrArg₂ (· * ·)
    (Eq.trans (congrArg _ ?_) (moved_10 x1 x2 x3 x4 x5 x6 n k r c)) (Eq.trans (congrArg _ ?_) (weight_10 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (1, 1). -/
theorem weight_11 (o : Fin 1024) (k : Fin 128) :
    val_main_v167 (F := Ideal) x7 (ix2 o k) = weights2 x7 o k 1 1 := by
  rw [val_main_v167_apply, val_main_v166_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (1, 1). -/
theorem moved_11 (n : Fin 16) (k : Fin 128) (r c : Fin 33) :
    val_main_v168 (F := Ideal) x1 x2 x3 x4 x5 x6 (ix4 n k r c) =
      ringed (layerOf x1 x2 x3 x4 x5 x6 n k) (r.val + 1) (c.val + 1) := by
  rw [val_main_v168_apply]
  refine Eq.trans (congrArg _ ?_) (ringed_at x1 x2 x3 x4 x5 x6 n k ⟨r.val + 1, by omega⟩ ⟨c.val + 1, by omega⟩)
  refine funext fun a => Fin.ext ?_
  match a with
  | ⟨0, _⟩ => rfl
  | ⟨1, _⟩ => rfl
  | ⟨2, _⟩ => show 1 + r.val = r.val + 1; omega
  | ⟨3, _⟩ => show 1 + c.val = c.val + 1; omega

/-- Tap (1, 1) of the convolution. -/
theorem tap_11 (n : Fin 16) (o : Fin 1024) (r c : Fin 33) :
    val_main_v170 (F := Ideal) x1 x2 x3 x4 x5 x6 x7 (ix4 n o r c) =
      tap (layerOf x1 x2 x3 x4 x5 x6 n) (fun k => weights2 x7 o k 1 1) 1 1 r c := by
  rw [val_main_v170_apply, show idx_main_v170 (ix4 n o r c) = ix4 n r c o from funext fun a => match a with
    | ⟨0, _⟩ => rfl
    | ⟨1, _⟩ => rfl
    | ⟨2, _⟩ => rfl
    | ⟨3, _⟩ => rfl, val_main_v169_apply]
  unfold tap
  refine Finset.sum_congr rfl fun k _ => congrArg₂ (· * ·)
    (Eq.trans (congrArg _ ?_) (moved_11 x1 x2 x3 x4 x5 x6 n k r c)) (Eq.trans (congrArg _ ?_) (weight_11 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (1, 2). -/
theorem weight_12 (o : Fin 1024) (k : Fin 128) :
    val_main_v173 (F := Ideal) x7 (ix2 o k) = weights2 x7 o k 1 2 := by
  rw [val_main_v173_apply, val_main_v172_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (1, 2). -/
theorem moved_12 (n : Fin 16) (k : Fin 128) (r c : Fin 33) :
    val_main_v174 (F := Ideal) x1 x2 x3 x4 x5 x6 (ix4 n k r c) =
      ringed (layerOf x1 x2 x3 x4 x5 x6 n k) (r.val + 1) (c.val + 2) := by
  rw [val_main_v174_apply]
  refine Eq.trans (congrArg _ ?_) (ringed_at x1 x2 x3 x4 x5 x6 n k ⟨r.val + 1, by omega⟩ ⟨c.val + 2, by omega⟩)
  refine funext fun a => Fin.ext ?_
  match a with
  | ⟨0, _⟩ => rfl
  | ⟨1, _⟩ => rfl
  | ⟨2, _⟩ => show 1 + r.val = r.val + 1; omega
  | ⟨3, _⟩ => show 2 + c.val = c.val + 2; omega

/-- Tap (1, 2) of the convolution. -/
theorem tap_12 (n : Fin 16) (o : Fin 1024) (r c : Fin 33) :
    val_main_v176 (F := Ideal) x1 x2 x3 x4 x5 x6 x7 (ix4 n o r c) =
      tap (layerOf x1 x2 x3 x4 x5 x6 n) (fun k => weights2 x7 o k 1 2) 1 2 r c := by
  rw [val_main_v176_apply, show idx_main_v176 (ix4 n o r c) = ix4 n r c o from funext fun a => match a with
    | ⟨0, _⟩ => rfl
    | ⟨1, _⟩ => rfl
    | ⟨2, _⟩ => rfl
    | ⟨3, _⟩ => rfl, val_main_v175_apply]
  unfold tap
  refine Finset.sum_congr rfl fun k _ => congrArg₂ (· * ·)
    (Eq.trans (congrArg _ ?_) (moved_12 x1 x2 x3 x4 x5 x6 n k r c)) (Eq.trans (congrArg _ ?_) (weight_12 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (2, 0). -/
theorem weight_20 (o : Fin 1024) (k : Fin 128) :
    val_main_v179 (F := Ideal) x7 (ix2 o k) = weights2 x7 o k 2 0 := by
  rw [val_main_v179_apply, val_main_v178_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (2, 0). -/
theorem moved_20 (n : Fin 16) (k : Fin 128) (r c : Fin 33) :
    val_main_v180 (F := Ideal) x1 x2 x3 x4 x5 x6 (ix4 n k r c) =
      ringed (layerOf x1 x2 x3 x4 x5 x6 n k) (r.val + 2) (c.val + 0) := by
  rw [val_main_v180_apply]
  refine Eq.trans (congrArg _ ?_) (ringed_at x1 x2 x3 x4 x5 x6 n k ⟨r.val + 2, by omega⟩ ⟨c.val + 0, by omega⟩)
  refine funext fun a => Fin.ext ?_
  match a with
  | ⟨0, _⟩ => rfl
  | ⟨1, _⟩ => rfl
  | ⟨2, _⟩ => show 2 + r.val = r.val + 2; omega
  | ⟨3, _⟩ => rfl

/-- Tap (2, 0) of the convolution. -/
theorem tap_20 (n : Fin 16) (o : Fin 1024) (r c : Fin 33) :
    val_main_v182 (F := Ideal) x1 x2 x3 x4 x5 x6 x7 (ix4 n o r c) =
      tap (layerOf x1 x2 x3 x4 x5 x6 n) (fun k => weights2 x7 o k 2 0) 2 0 r c := by
  rw [val_main_v182_apply, show idx_main_v182 (ix4 n o r c) = ix4 n r c o from funext fun a => match a with
    | ⟨0, _⟩ => rfl
    | ⟨1, _⟩ => rfl
    | ⟨2, _⟩ => rfl
    | ⟨3, _⟩ => rfl, val_main_v181_apply]
  unfold tap
  refine Finset.sum_congr rfl fun k _ => congrArg₂ (· * ·)
    (Eq.trans (congrArg _ ?_) (moved_20 x1 x2 x3 x4 x5 x6 n k r c)) (Eq.trans (congrArg _ ?_) (weight_20 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (2, 1). -/
theorem weight_21 (o : Fin 1024) (k : Fin 128) :
    val_main_v185 (F := Ideal) x7 (ix2 o k) = weights2 x7 o k 2 1 := by
  rw [val_main_v185_apply, val_main_v184_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (2, 1). -/
theorem moved_21 (n : Fin 16) (k : Fin 128) (r c : Fin 33) :
    val_main_v186 (F := Ideal) x1 x2 x3 x4 x5 x6 (ix4 n k r c) =
      ringed (layerOf x1 x2 x3 x4 x5 x6 n k) (r.val + 2) (c.val + 1) := by
  rw [val_main_v186_apply]
  refine Eq.trans (congrArg _ ?_) (ringed_at x1 x2 x3 x4 x5 x6 n k ⟨r.val + 2, by omega⟩ ⟨c.val + 1, by omega⟩)
  refine funext fun a => Fin.ext ?_
  match a with
  | ⟨0, _⟩ => rfl
  | ⟨1, _⟩ => rfl
  | ⟨2, _⟩ => show 2 + r.val = r.val + 2; omega
  | ⟨3, _⟩ => show 1 + c.val = c.val + 1; omega

/-- Tap (2, 1) of the convolution. -/
theorem tap_21 (n : Fin 16) (o : Fin 1024) (r c : Fin 33) :
    val_main_v188 (F := Ideal) x1 x2 x3 x4 x5 x6 x7 (ix4 n o r c) =
      tap (layerOf x1 x2 x3 x4 x5 x6 n) (fun k => weights2 x7 o k 2 1) 2 1 r c := by
  rw [val_main_v188_apply, show idx_main_v188 (ix4 n o r c) = ix4 n r c o from funext fun a => match a with
    | ⟨0, _⟩ => rfl
    | ⟨1, _⟩ => rfl
    | ⟨2, _⟩ => rfl
    | ⟨3, _⟩ => rfl, val_main_v187_apply]
  unfold tap
  refine Finset.sum_congr rfl fun k _ => congrArg₂ (· * ·)
    (Eq.trans (congrArg _ ?_) (moved_21 x1 x2 x3 x4 x5 x6 n k r c)) (Eq.trans (congrArg _ ?_) (weight_21 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The weights of tap (2, 2). -/
theorem weight_22 (o : Fin 1024) (k : Fin 128) :
    val_main_v191 (F := Ideal) x7 (ix2 o k) = weights2 x7 o k 2 2 := by
  rw [val_main_v191_apply, val_main_v190_apply]
  refine congrArg x7 (funext fun a => Fin.ext ?_)
  match a with
  | ⟨0, _⟩ => show (o.val * 128 + k.val) / 128 = o.val; omega
  | ⟨1, _⟩ => show (o.val * 128 + k.val) / 1 % 128 = k.val; omega
  | ⟨2, _⟩ => rfl
  | ⟨3, _⟩ => rfl

/-- The input of tap (2, 2). -/
theorem moved_22 (n : Fin 16) (k : Fin 128) (r c : Fin 33) :
    val_main_v192 (F := Ideal) x1 x2 x3 x4 x5 x6 (ix4 n k r c) =
      ringed (layerOf x1 x2 x3 x4 x5 x6 n k) (r.val + 2) (c.val + 2) := by
  rw [val_main_v192_apply]
  refine Eq.trans (congrArg _ ?_) (ringed_at x1 x2 x3 x4 x5 x6 n k ⟨r.val + 2, by omega⟩ ⟨c.val + 2, by omega⟩)
  refine funext fun a => Fin.ext ?_
  match a with
  | ⟨0, _⟩ => rfl
  | ⟨1, _⟩ => rfl
  | ⟨2, _⟩ => show 2 + r.val = r.val + 2; omega
  | ⟨3, _⟩ => show 2 + c.val = c.val + 2; omega

/-- Tap (2, 2) of the convolution. -/
theorem tap_22 (n : Fin 16) (o : Fin 1024) (r c : Fin 33) :
    val_main_v194 (F := Ideal) x1 x2 x3 x4 x5 x6 x7 (ix4 n o r c) =
      tap (layerOf x1 x2 x3 x4 x5 x6 n) (fun k => weights2 x7 o k 2 2) 2 2 r c := by
  rw [val_main_v194_apply, show idx_main_v194 (ix4 n o r c) = ix4 n r c o from funext fun a => match a with
    | ⟨0, _⟩ => rfl
    | ⟨1, _⟩ => rfl
    | ⟨2, _⟩ => rfl
    | ⟨3, _⟩ => rfl, val_main_v193_apply]
  unfold tap
  refine Finset.sum_congr rfl fun k _ => congrArg₂ (· * ·)
    (Eq.trans (congrArg _ ?_) (moved_22 x1 x2 x3 x4 x5 x6 n k r c)) (Eq.trans (congrArg _ ?_) (weight_22 x7 o k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The nine taps together. -/
theorem conv2_at (n : Fin 16) (o : Fin 1024) (r c : Fin 33) :
    val_main_v195 (F := Ideal) x1 x2 x3 x4 x5 x6 x7 (ix4 n o r c) =
      conv2 (layerOf x1 x2 x3 x4 x5 x6 n) (weights2 x7 o) r c := by
  rw [val_main_v195_apply, val_main_v189_apply, val_main_v183_apply, val_main_v177_apply, val_main_v171_apply,
    val_main_v165_apply, val_main_v159_apply, val_main_v153_apply, val_main_v147_apply, val_main_v146_apply,
    tap_00, tap_01, tap_02, tap_10, tap_11, tap_12, tap_20, tap_21, tap_22]
  have hz : val_main_cst_34 (F := Ideal) (idx_main_v146 (ix4 n o r c)) = 0 := Ideal.ofBits_zero_f32
  rw [hz]
  unfold conv2
  rw [Fin.sum_univ_three, Fin.sum_univ_three, Fin.sum_univ_three, Fin.sum_univ_three]
  generalize layerOf x1 x2 x3 x4 x5 x6 n = z
  show (0 : EReal) + tap z _ 0 0 r c + tap z _ 0 1 r c + tap z _ 0 2 r c + tap z _ 1 0 r c + tap z _ 1 1 r c +
    tap z _ 1 2 r c + tap z _ 2 0 r c + tap z _ 2 1 r c + tap z _ 2 2 r c = (tap z _ 0 0 r c + tap z _ 0 1 r c +
    tap z _ 0 2 r c) + (tap z _ 1 0 r c + tap z _ 1 1 r c + tap z _ 1 2 r c) + (tap z _ 2 0 r c + tap z _ 2 1 r c +
    tap z _ 2 2 r c)
  rw [zero_add]
  simp only [add_assoc]

/-- The second normalisation's multiplier. -/
theorem gain2 (o : Fin 1024) : val_main_v199 (F := Ideal) x8 x11 (ix1 o) = bnInv (x8 (ix1 o)) (x11 (ix1 o)) := by
  rw [val_main_v199_apply, val_main_v198_apply, val_main_v197_apply, val_main_v196_apply]
  rfl

/-- The multiplier, broadcast. -/
theorem gain2_at (n : Fin 16) (o : Fin 1024) (r c : Fin 33) :
    val_main_v201 (F := Ideal) x8 x11 (ix4 n o r c) = bnInv (x8 (ix1 o)) (x11 (ix1 o)) := by
  rw [val_main_v201_apply, val_main_v200_apply]
  refine Eq.trans (congrArg _ ?_) (gain2 x8 x11 o)
  funext a
  match a with
  | ⟨0, _⟩ => rfl

/-- The shift, broadcast. -/
theorem shift2_at (n : Fin 16) (o : Fin 1024) (r c : Fin 33) :
    val_main_v206 (F := Ideal) x8 x9 x10 x11 (ix4 n o r c) =
      bnShift (x8 (ix1 o)) (x9 (ix1 o)) (x10 (ix1 o)) (x11 (ix1 o)) := by
  rw [val_main_v206_apply, val_main_v205_apply, show idx_main_v205 (idx_main_v206 (ix4 n o r c)) = ix1 o from
    funext fun a => match a with | ⟨0, _⟩ => rfl, val_main_v204_apply, val_main_v203_apply, gain2]
  rfl

/-- The second layer before its mean. -/
theorem second_cell (n : Fin 16) (o : Fin 1024) (r c : Fin 33) :
    val_main_v208 (F := Ideal) x1 x2 x3 x4 x5 x6 x7 x8 x9 x10 x11 (ix4 n o r c) =
      max (conv2 (layerOf x1 x2 x3 x4 x5 x6 n) (weights2 x7 o) r c * bnInv (x8 (ix1 o)) (x11 (ix1 o)) +
        bnShift (x8 (ix1 o)) (x9 (ix1 o)) (x10 (ix1 o)) (x11 (ix1 o))) 0 := by
  rw [val_main_v208_apply, val_main_v207_apply, val_main_v202_apply, conv2_at, gain2_at, shift2_at,
    val_main_call7_v0_apply]
  have hz : val_main_call7_cst (F := Ideal) (idx_main_call7_v0 (ix4 n o r c)) = 0 := Ideal.ofBits_zero_f32
  rw [hz]
  rfl

/-- Indices of rank 4 as quadruples. -/
def quad (a b c d : ℕ) : (⟨4, ![a, b, c, d]⟩ : Shape).Idx ≃ Fin a × Fin b × Fin c × Fin d where
  toFun i := (i 0, i 1, i 2, i 3)
  invFun p := ix4 p.1 p.2.1 p.2.2.1 p.2.2.2
  left_inv i := (eq_ix4 i).symm
  right_inv _ := rfl

/-- A sum over rank 4 indices is an iterated sum. -/
theorem sum_ix4 {a b c d : ℕ} (f : (⟨4, ![a, b, c, d]⟩ : Shape).Idx → EReal) :
    ∑ i, f i = ∑ w : Fin a, ∑ x : Fin b, ∑ y : Fin c, ∑ z : Fin d, f (ix4 w x y z) := by
  rw [← Equiv.sum_comp (quad a b c d).symm, Fintype.sum_prod_type]
  refine Finset.sum_congr rfl fun w _ => ?_
  rw [Fintype.sum_prod_type]
  refine Finset.sum_congr rfl fun x _ => ?_
  rw [Fintype.sum_prod_type]
  rfl

/-- The host's sum over the last two axes. -/
theorem plane_sum (z : FVec Ideal S16x1024x33x33 .f32) (n : Fin 16) (o : Fin 1024) :
    Host.reduceAdd (F := Ideal) z (val_main_cst_36 (F := Ideal)) reducesTo_S16x1024x33x33_S16x1024_d2_3 h_S_ (ix2 n o) =
      ∑ r : Fin 33, ∑ c : Fin 33, z (ix4 n o r c) := by
  have hc : val_main_cst_36 (F := Ideal) (Shape.Idx.first h_S_) = 0 := Ideal.ofBits_zero_f32
  simp only [Host.reduceAdd, Ideal.hostReduceAdd_def]
  unfold Ideal.hostReduceAdd
  rw [hc, zero_add, Finset.sum_filter, sum_ix4, Finset.sum_eq_single n]
  · rw [Finset.sum_eq_single o]
    · refine Finset.sum_congr rfl fun r _ => Finset.sum_congr rfl fun c _ => if_pos ?_
      funext a
      match a with
      | ⟨0, _⟩ => rfl
      | ⟨1, _⟩ => rfl
    · intro m _ hm
      exact Finset.sum_eq_zero fun r _ => Finset.sum_eq_zero fun c _ => if_neg fun h => hm (congrFun h 1)
    · intro h
      exact absurd (Finset.mem_univ o) h
  · intro m _ hm
    exact Finset.sum_eq_zero fun o' _ => Finset.sum_eq_zero fun r _ => Finset.sum_eq_zero fun c _ =>
      if_neg fun h => hm (congrFun h 0)
  · intro h
    exact absurd (Finset.mem_univ n) h

/-- The reference's second layer is the specification's. -/
theorem second_layer (n : Fin 16) (o : Fin 1024) :
    val_main_v211 (F := Ideal) x1 x2 x3 x4 x5 x6 x7 x8 x9 x10 x11 (ix2 n o) =
      mean2 (layerOf x1 x2 x3 x4 x5 x6 n) (weights2 x7 o) (x8 (ix1 o)) (x9 (ix1 o)) (x10 (ix1 o)) (x11 (ix1 o)) := by
  rw [val_main_v211_apply, val_main_v210_apply]
  have ha : val_main_cst_37 (F := Ideal) (idx_main_v210 (ix2 n o)) = ((1089 : ℝ) : EReal) := area_word
  rw [ha]
  show Ideal.div _ _ = _
  rw [Ideal.div_coe (by norm_num)]
  unfold mean2
  refine congrArg (· * ((1 / 1089 : ℝ) : EReal)) ?_
  rw [← Finset.sum_congr rfl fun r _ => Finset.sum_congr rfl fun c _ => second_cell x1 x2 x3 x4 x5 x6 x7 x8 x9 x10 x11 n o r c]
  unfold val_main_v209
  generalize val_main_v208 (F := Ideal) x1 x2 x3 x4 x5 x6 x7 x8 x9 x10 x11 = z
  exact plane_sum z n o

end Cert.Hen

end
-- ==== Proof.RValue.lean ====
/- The reference's value and its run: the result array of the specification, the arguments unchanged. -/
module

public import proofs.«01_k».proof.Proof.RConv2
public import proofs.«01_k».proof.Proof.Result
public import proofs.«01_k».proof.Proof.Gen.ReferenceIdeal.Run

@[expose] public section

noncomputable section

open Idealize.ShloMosaic Idealize.SL.Sem Idealize.ShloMosaic.ValueIdx Cert.ReferenceIdeal Cert.ReferenceIdeal.Gen
  Cert.ReferenceIdeal.Read

namespace Cert.Hen

/-- The reference's last layer is the specification's network. -/
theorem ref_out (a : Args) (n : Fin 16) (o : Fin 256) :
    val_main_v216 (F := Ideal) a.x1 a.w1 a.g1 a.b1 a.m1 a.v1 a.w2 a.g2 a.b2 a.m2 a.v2 a.wl a.bl (ix2 n o) = a.out n o := by
  rw [val_main_v216_apply, val_main_v213_apply, val_main_v215_apply, val_main_v214_apply]
  have hb : a.bl (idx_main_v214 (idx_main_v215 (ix2 n o))) = a.bl (ix1 o) :=
    congrArg a.bl (funext fun d => match d with | ⟨0, _⟩ => rfl)
  have hk : ∀ k : Fin 1024, val_main_v211 (F := Ideal) a.x1 a.w1 a.g1 a.b1 a.m1 a.v1 a.w2 a.g2 a.b2 a.m2 a.v2
      (lidx_main_v213 (ix2 n o) k) * val_main_v212 (F := Ideal) a.wl (ridx_main_v213 (ix2 n o) k) =
      mean2 (a.first n) (a.w2f k) (a.g2 (ix1 k)) (a.b2 (ix1 k)) (a.m2 (ix1 k)) (a.v2 (ix1 k)) * a.wl (ix2 o k) := by
    intro k
    rw [val_main_v212_apply, show lidx_main_v213 (ix2 n o) k = ix2 n k from funext fun d => match d with
      | ⟨0, _⟩ => rfl
      | ⟨1, _⟩ => rfl, second_layer]
    refine congrArg₂ (· * ·) rfl (congrArg a.wl (funext fun d => ?_))
    match d with
    | ⟨0, _⟩ => rfl
    | ⟨1, _⟩ => rfl
  rw [Finset.sum_congr rfl fun k _ => hk k, hb]
  rfl

/-- The reference's result is the specification's. -/
theorem ref_value (a : Args) :
    val_main_v217 (F := Ideal) a.x a.x1 a.w1 a.g1 a.b1 a.m1 a.v1 a.w2 a.g2 a.b2 a.m2 a.v2 a.wl a.bl = a.result := by
  have h := ref_out a
  unfold val_main_v217
  generalize val_main_v216 (F := Ideal) a.x1 a.w1 a.g1 a.b1 a.m1 a.v1 a.w2 a.g2 a.b2 a.m2 a.v2 a.wl a.bl = y at h ⊢
  exact beside a y h _

variable (m : (ℓ : Loc nD τ sig) → Buf (Elt Ideal) ℓ) (ρ : Dev nD → PrngReg)

/-- The reference's arguments on one device. -/
def refArgs (c : Dev nD) : Args where
  x := m ((c.tc : Thread nD τ).loc main_arg0)
  x1 := m ((c.tc : Thread nD τ).loc main_arg1)
  w1 := m ((c.tc : Thread nD τ).loc main_arg2)
  g1 := m ((c.tc : Thread nD τ).loc main_arg3)
  b1 := m ((c.tc : Thread nD τ).loc main_arg4)
  m1 := m ((c.tc : Thread nD τ).loc main_arg5)
  v1 := m ((c.tc : Thread nD τ).loc main_arg6)
  w2 := m ((c.tc : Thread nD τ).loc main_arg7)
  g2 := m ((c.tc : Thread nD τ).loc main_arg8)
  b2 := m ((c.tc : Thread nD τ).loc main_arg9)
  m2 := m ((c.tc : Thread nD τ).loc main_arg10)
  v2 := m ((c.tc : Thread nD τ).loc main_arg11)
  wl := m ((c.tc : Thread nD τ).loc main_arg12)
  bl := m ((c.tc : Thread nD τ).loc main_arg13)

/-- The reference's run, read at its result. -/
theorem ref_run : θ_run defs (onTc (τ := τ) (main (F := Ideal))) ⟨m, fun _ => 0, ρ⟩ fun r => ∀ c : Dev nD,
    r.2.mem ((c.tc : Thread nD τ).loc main_v217) = (refArgs m c).result :=
  (θ_run defs _ _).mono
    (fun _ h c => (h c).1.trans ((val_main_v217_eq (F := Ideal) (StableHlo.launchContents m c)).trans (ref_value (refArgs m c))))
    (Cert.ReferenceIdeal.Value.run (F := Ideal) m ρ)

end Cert.Hen

end
-- ==== Proof.Pre.lean ====
/- The precondition, read: every image has a counting pixel for the a/b histogram, the first layer's weights of that
   histogram and its scale are finite. -/
module

public import proofs.«01_k».proof.Proof.KValue
public import proofs.«01_k».proof.Proof.Gen.Pre_well_posed
public import Idealize.ShloMosaic.Lib.ReduceAll

@[expose] public section

noncomputable section

open Idealize.ShloMosaic Idealize.ShloMosaic.ValueIdx Cert.Pre_well_posed Cert.Pre_well_posed.Gen

namespace Cert.Hen

/-- One of two bits whose `or` is 1 is 1. -/
theorem ori_one : ∀ e b : BitVec 1, IntOp.ori e b = 1#1 → e = 1#1 ∨ b = 1#1 := by decide

/-- Both of two masks whose `and` is 1 at an index are 1 there. -/
theorem both {s : Shape} (x y : IVec s 1) (i : s.Idx) : andi x y i = 1#1 ↔ x i = 1#1 ∧ y i = 1#1 := IntOp.andi_eq_one

/-- A fold by `or` over bits that came out 1 started at 1 or met a 1. -/
theorem foldl_ori {ι : Type} (f : ι → BitVec 1) : ∀ (l : List ι) (e : BitVec 1),
    l.foldl (fun r n => IntOp.ori r (f n)) e = 1#1 → e = 1#1 ∨ ∃ n ∈ l, f n = 1#1
  | [], _, h => Or.inl h
  | a :: l, e, h => by
    rcases foldl_ori f l _ h with h1 | ⟨n, hn, h1⟩
    · rcases ori_one e (f a) h1 with h2 | h2
      · exact Or.inl h2
      · exact Or.inr ⟨a, List.mem_cons_self .., h2⟩
    · exact Or.inr ⟨n, List.mem_cons_of_mem _ hn, h1⟩

/-- A reduction by `or` from 0 that is 1 at `j` met a 1 among the indices that reduce into `j`. -/
theorem reduce_ori {s t u : Shape} {axes : List (Fin s.rank)} (x : s.Idx → BitVec 1) (init : u.Idx → BitVec 1)
    (h : s.ReducesTo axes t) (hu : 0 < u.numel) (j : t.Idx) (hi : init (Shape.Idx.first hu) = 0#1)
    (e : Host.reduce IntOp.ori x init h hu j = 1#1) : ∃ i, h.drop i = j ∧ x i = 1#1 := by
  rw [Host.reduce_eq_foldl, hi] at e
  rcases foldl_ori x _ _ e with h0 | ⟨i, hm, h1⟩
  · exact absurd h0 (by decide)
  · rw [List.mem_filter] at hm
    exact ⟨i, by simpa using hm.2, h1⟩

/-- A strict comparison that came out 1. -/
theorem olt_true {x y : EReal} (h : Ideal.cmp .olt x y = 1#1) : x < y := by
  by_contra hn
  simp [Ideal.cmp, hn] at h

/-- A channel of the images, reshaped. -/
theorem plane_at (x1 : FVec Ideal S16x3x512x512 .f32) (k : ℕ) (k' : Fin 3) (hk : k'.val = k)
    (hs : S16x3x512x512.Slices ![0, k, 0, 0] S16x1x512x512) (hc : S16x1x512x512.ShapeCasts S16x512x512) (n : Fin 16)
    (y z : Fin 512) :
    shapeCast S16x512x512 (extractStridedSlice S16x1x512x512 ![0, k, 0, 0] x1 hs) hc (ix3 n y z) = x1 (ix4 n k' y z) := by
  refine (shapeCast_apply _ hc (ix3 n y z) (ix4 n 0 y z) ?_).trans ?_
  · rw [Shape.rowMajor_val_four, Shape.rowMajor_val_three]
    show ((n.val * 1 + 0) * 512 + y.val) * 512 + z.val = (n.val * 512 + y.val) * 512 + z.val
    omega
  · refine extractStridedSlice_apply ![0, k, 0, 0] x1 hs (ix4 n 0 y z) (ix4 n k' y z) fun a => ?_
    match a with
    | ⟨0, _⟩ => show n.val = 0 + n.val; omega
    | ⟨1, _⟩ => show k'.val = k + 0; omega
    | ⟨2, _⟩ => show y.val = 0 + y.val; omega
    | ⟨3, _⟩ => show z.val = 0 + z.val; omega

/-- The first column of the first weights, reshaped. -/
theorem column_at (w1 : FVec Ideal S128x9x1x1 .f32) (hs : S128x9x1x1.Slices ![0, 0, 0, 0] S128x1x1x1)
    (hc : S128x1x1x1.ShapeCasts S128x1x1) (o : Fin 128) :
    shapeCast S128x1x1 (extractStridedSlice S128x1x1x1 ![0, 0, 0, 0] w1 hs) hc (ix3 o 0 0) = w1 (ix4 o 0 0 0) := by
  refine (shapeCast_apply _ hc (ix3 o 0 0) (ix4 o 0 0 0) ?_).trans ?_
  · rw [Shape.rowMajor_val_four, Shape.rowMajor_val_three]
    show ((o.val * 1 + 0) * 1 + 0) * 1 + 0 = (o.val * 1 + 0) * 1 + 0
    omega
  · refine extractStridedSlice_apply ![0, 0, 0, 0] w1 hs (ix4 o 0 0 0) (ix4 o 0 0 0) fun a => ?_
    match a with
    | ⟨0, _⟩ => show o.val = 0 + o.val; omega
    | ⟨1, _⟩ => rfl
    | ⟨2, _⟩ => rfl
    | ⟨3, _⟩ => rfl

/-- A pixel that reduces into image `n` is one of image `n`. -/
theorem drop_image (h : S16x512x512.ReducesTo [1, 2] S16) (i : S16x512x512.Idx) (n : Fin 16) (e : h.drop i = ix1 n) :
    i = ix3 n (i 1) (i 2) := by
  have h0 : i 0 = n := congrFun e 0
  rw [← h0]
  exact eq_ix3 i

/-- The printed precondition gives what the kernel's value needs. -/
theorem sound_of_pre (a : Args)
    (h : Cert.Pre_well_posed.fn (F := Ideal) a.x a.x1 a.w1 a.g1 a.b1 a.m1 a.v1 a.w2 a.g2 a.b2 a.m2 a.v2 a.wl a.bl =
      fun _ => 1#1) : a.Sound := by
  have e := congrFun h ix0
  have h1 := plane_at a.x1 1 1 rfl
  have h2 := plane_at a.x1 2 2 rfl
  unfold Cert.Pre_well_posed.fn Cert.Pre_well_posed.fn_part1 Cert.Pre_well_posed.fn_part2 at e
  dsimp only at e
  have h0 := column_at a.w1 Facts.slices_S128x9x1x1_S128x1x1x1_0_0_0_0 Facts.shapeCasts_S128x1x1x1_S128x1x1
  replace h1 := h1 Facts.slices_S16x3x512x512_S16x1x512x512_0_1_0_0 Facts.shapeCasts_S16x1x512x512_S16x512x512
  replace h2 := h2 Facts.slices_S16x3x512x512_S16x1x512x512_0_2_0_0 Facts.shapeCasts_S16x1x512x512_S16x512x512
  generalize shapeCast S128x1x1 (extractStridedSlice S128x1x1x1 ![0, 0, 0, 0] a.w1 _) _ = l at h0 e
  generalize shapeCast S16x512x512 (extractStridedSlice S16x1x512x512 ![0, 1, 0, 0] a.x1 _) _ = p at h1 e
  generalize shapeCast S16x512x512 (extractStridedSlice S16x1x512x512 ![0, 2, 0, 0] a.x1 _) _ = q at h2 e
  rw [both, both] at e
  obtain ⟨⟨eab, ew⟩, eg⟩ := e
  haveI : Subsingleton S_.Idx := ⟨fun i j => funext fun d => d.elim0⟩
  intro n
  refine ⟨?_, ?_, ?_⟩
  · obtain ⟨i, hd, hx⟩ := reduce_ori _ _ _ _ _ rfl (Host.reduce_andi_all _ _ _ _ _ eab (ix1 n))
    rw [drop_image _ i n hd] at hx
    obtain ⟨y, z, hx'⟩ : ∃ y z : Fin 512, okAB (p (ix3 n y z)) (q (ix3 n y z)) = 1#1 := ⟨i 1, i 2, hx⟩
    rw [h1, h2] at hx'
    exact ⟨y, z, hx'⟩
  · intro o
    have hw : Ideal.cmp .olt (max (l (ix3 o 0 0)) (-(l (ix3 o 0 0)))) (Ideal.ofBits .f32 0x7F800000#32) = 1#1 :=
      Host.reduce_andi_all _ _ _ _ _ ew (ix3 o 0 0)
    rw [pinf_word, h0] at hw
    exact olt_true hw
  · intro o
    have hg : Ideal.cmp .olt (max (bnInv (a.g1 (ix1 o)) (a.v1 (ix1 o))) (-(bnInv (a.g1 (ix1 o)) (a.v1 (ix1 o)))))
        (Ideal.ofBits .f32 0x7F800000#32) = 1#1 :=
      Host.reduce_andi_all _ _ _ _ _ eg (ix1 o)
    rw [pinf_word] at hg
    exact olt_true hg

end Cert.Hen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_posed
public import proofs.«01_k».proof.Proof.Gen.ReferenceIdeal.Run
public import proofs.«01_k».proof.Proof.Gen.ReferenceIdeal.Read
public import proofs.«01_k».proof.Proof.KValue
public import proofs.«01_k».proof.Proof.RValue
public import proofs.«01_k».proof.Proof.Pre
public import Idealize.ShloMosaic.Adequacy
public import Idealize.ShloMosaic.Init

@[expose] public section

noncomputable section

namespace Cert.Proof

open Idealize.ShloMosaic Idealize.SL.Sem

/-- The kernel as printed runs without a fault, leaves its arguments unchanged and every counter at zero. -/
theorem frame_kernel : Cert.quiescent_Kernel := fun m ρ _ => Cert.Kernel.Gen.frame m ρ

/-- The same of the kernel at the ideal values. -/
theorem frame_ideal : Cert.quiescent_KernelIdeal := fun m ρ _ => Cert.KernelIdeal.Gen.frame m ρ

/-- The same under the precondition, which it does not need. -/
theorem frame_ideal_pre : Cert.quiescent_KernelIdeal_pre_well_posed := fun m ρ _ => Cert.KernelIdeal.Gen.frame m ρ

/-- The reference runs, leaves its arguments unchanged and every counter at zero. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition, which it does not need. -/
theorem frame_ref_pre : Cert.quiescent_ReferenceIdeal_pre_well_posed := fun m ρ _ => frame_ref m ρ trivial

/-- The named constant is one over the number of pooled cells. -/
theorem named : Cert.preserves_Kernel_KernelIdeal :=
  IdealRules.named_const.statement Cert.KernelIdeal.κ "inv_area" .f32 0x3A70B84D#32 ((1 / 1089 : ℝ) : EReal) rfl

/-- Two launches whose memories agree on the arguments have the same arguments. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (x : Cert.Hen.Args) (y : Cert.Hen.Args) (hx : x = Cert.Hen.args m c) (hy : y = Cert.Hen.refArgs m' c)
    (h : y.x = x.x ∧ y.x1 = x.x1 ∧ y.w1 = x.w1 ∧ y.g1 = x.g1 ∧ y.b1 = x.b1 ∧ y.m1 = x.m1 ∧ y.v1 = x.v1 ∧ y.w2 = x.w2 ∧
      y.g2 = x.g2 ∧ y.b2 = x.b2 ∧ y.m2 = x.m2 ∧ y.v2 = x.v2 ∧ y.wl = x.wl ∧ y.bl = x.bl) :
    Cert.Hen.refArgs m' c = Cert.Hen.args m c := by
  rw [← hx, ← hy]
  clear hx hy
  cases x
  cases y
  obtain ⟨h0, h1, h2, h3, h4, h5, h6, h7, h8, h9, h10, h11, h12, h13⟩ := h
  dsimp only at h0 h1 h2 h3 h4 h5 h6 h7 h8 h9 h10 h11 h12 h13
  subst h0 h1 h2 h3 h4 h5 h6 h7 h8 h9 h10 h11 h12 h13
  rfl

/-- From the same arguments, well posed, the kernel at the ideal values and the reference end with the same result. -/
theorem equal : Cert.algebraic_KernelIdeal_ReferenceIdeal_pre_well_posed := by
  intro m ρ m' ρ' hpre hagree
  refine ⟨fun c => (Cert.Hen.args m c).result, ?_, ?_⟩
  · exact (θ_run Cert.KernelIdeal.defs _ _).mono (fun _ h c => ⟨h.1 c, h.2 c⟩)
      (θ_run_and (Cert.Hen.kernel_run m ρ fun c => Cert.Hen.sound_of_pre (Cert.Hen.args m c) (hpre c))
        (Cert.KernelIdeal.Gen.unchanged m ρ))
  · refine (θ_run Cert.ReferenceIdeal.defs _ _).mono (fun _ h c => ⟨(h.1 c).trans (congrArg Cert.Hen.Args.result ?_), (h.2 c).2⟩)
      (θ_run_and (Cert.Hen.ref_run m' ρ') (Cert.ReferenceIdeal.Value.run (F := Ideal) m' ρ'))
    exact same_args m m' c _ _ rfl rfl (hagree c)

/-- Every claim of the certificate. -/
theorem claim : Cert.Claim :=
  ⟨Cert.Kernel.Gen.facts, Cert.KernelIdeal.Gen.facts, Cert.ReferenceIdeal.Gen.facts, Cert.Pre_well_posed.Gen.facts,
    frame_kernel, frame_ideal, frame_ideal_pre, frame_ref, frame_ref_pre, named, equal⟩

end Cert.Proof

end
